-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  IdealRules.named_const.Statement Cert.KernelIdeal.κ "inv_hw" .f32 0x3AA72F05#32 ((784⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S64x512x28x28 : Shape := ⟨4, ![64, 512, 28, 28]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S2048x512 : Shape := ⟨2, ![2048, 512]⟩
abbrev S262144x512 : Shape := ⟨2, ![262144, 512]⟩
abbrev S20x512 : Shape := ⟨2, ![20, 512]⟩
abbrev S1024x512 : Shape := ⟨2, ![1024, 512]⟩
abbrev S512x256 : Shape := ⟨2, ![512, 256]⟩
abbrev S256 : Shape := ⟨1, ![256]⟩
abbrev S256x10 : Shape := ⟨2, ![256, 10]⟩
abbrev S10 : Shape := ⟨1, ![10]⟩
abbrev S64x512x784 : Shape := ⟨3, ![64, 512, 784]⟩
abbrev S64x512x512 : Shape := ⟨3, ![64, 512, 512]⟩
abbrev S8x512x784 : Shape := ⟨3, ![8, 512, 784]⟩
abbrev S8x512x512 : Shape := ⟨3, ![8, 512, 512]⟩
abbrev S1x512x784 : Shape := ⟨3, ![1, 512, 784]⟩
abbrev S512x784 : Shape := ⟨2, ![512, 784]⟩
abbrev S1x512x512 : Shape := ⟨3, ![1, 512, 512]⟩
abbrev S512x512x512 : Shape := ⟨3, ![512, 512, 512]⟩
abbrev S64x10 : Shape := ⟨2, ![64, 10]⟩
abbrev S64x16x512 : Shape := ⟨3, ![64, 16, 512]⟩
abbrev S16x512x512 : Shape := ⟨3, ![16, 512, 512]⟩
abbrev S64x1x512 : Shape := ⟨3, ![64, 1, 512]⟩
abbrev S1x512 : Shape := ⟨2, ![1, 512]⟩
abbrev S64 : Shape := ⟨1, ![64]⟩
abbrev S64x1 : Shape := ⟨2, ![64, 1]⟩
abbrev S64x2048 : Shape := ⟨2, ![64, 2048]⟩
abbrev S1x2048 : Shape := ⟨2, ![1, 2048]⟩
abbrev S20 : Shape := ⟨1, ![20]⟩
abbrev S1x20 : Shape := ⟨2, ![1, 20]⟩
abbrev S64x20 : Shape := ⟨2, ![64, 20]⟩
abbrev S20x20 : Shape := ⟨2, ![20, 20]⟩
abbrev S64x256 : Shape := ⟨2, ![64, 256]⟩
abbrev S1x256 : Shape := ⟨2, ![1, 256]⟩
abbrev S1x10 : Shape := ⟨2, ![1, 10]⟩

abbrev nBuf : Space → Nat
  | .hbm => 31
  | .vmem => 35
  | .smem => 0
  | _ => 0

abbrev bufTy : (tb : Table) → Fin (tcTables nBuf tb) → BufTy
  | .hbm, ⟨0, _⟩ => ⟨S64x512, .f32⟩
  | .hbm, ⟨1, _⟩ => ⟨S64x512x28x28, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x2048, .f32⟩
  | .hbm, ⟨9, _⟩ => ⟨S2048, .f32⟩
  | .hbm, ⟨10, _⟩ => ⟨S2048x512, .f32⟩
  | .hbm, ⟨11, _⟩ => ⟨S512, .f32⟩
  | .hbm, ⟨12, _⟩ => ⟨S262144x512, .f32⟩
  | .hbm, ⟨13, _⟩ => ⟨S512, .f32⟩
  | .hbm, ⟨14, _⟩ => ⟨S20x512, .f32⟩
  | .hbm, ⟨15, _⟩ => ⟨S1024x512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x512, .f32⟩
  | .hbm, ⟨20, _⟩ => ⟨S512, .f32⟩
  | .hbm, ⟨21, _⟩ => ⟨S512x512, .f32⟩
  | .hbm, ⟨22, _⟩ => ⟨S512, .f32⟩
  | .hbm, ⟨23, _⟩ => ⟨S512x256, .f32⟩
  | .hbm, ⟨24, _⟩ => ⟨S256, .f32⟩
  | .hbm, ⟨25, _⟩ => ⟨S256x10, .f32⟩
  | .hbm, ⟨26, _⟩ => ⟨S10, .f32⟩
  | .hbm, ⟨27, _⟩ => ⟨S64x512x784, .f32⟩
  | .hbm, ⟨28, _⟩ => ⟨S64x512x512, .bf16⟩
  | .hbm, ⟨29, _⟩ => ⟨S512x512x512, .f32⟩
  | .hbm, ⟨30, _⟩ => ⟨S64x10, .f32⟩
  | .local _ .vmem, ⟨0, _⟩ => ⟨S8x512x784, .f32⟩
  | .local _ .vmem, ⟨1, _⟩ => ⟨S8x512x784, .f32⟩
  | .local _ .vmem, ⟨2, _⟩ => ⟨S8x512x512, .bf16⟩
  | .local _ .vmem, ⟨3, _⟩ => ⟨S8x512x512, .bf16⟩
  | .local _ .vmem, ⟨4, _⟩ => ⟨S64x16x512, .bf16⟩
  | .local _ .vmem, ⟨5, _⟩ => ⟨S64x16x512, .bf16⟩
  | .local _ .vmem, ⟨6, _⟩ => ⟨S16x512x512, .f32⟩
  | .local _ .vmem, ⟨7, _⟩ => ⟨S16x512x512, .f32⟩
  | .local _ .vmem, ⟨8, _⟩ => ⟨S64x512, .f32⟩
  | .local _ .vmem, ⟨9, _⟩ => ⟨S512, .f32⟩
  | .local _ .vmem, ⟨10, _⟩ => ⟨S20x512, .f32⟩
  | .local _ .vmem, ⟨11, _⟩ => ⟨S512x512, .f32⟩
  | .local _ .vmem, ⟨12, _⟩ => ⟨S512, .f32⟩
  | .local _ .vmem, ⟨13, _⟩ => ⟨S512x512, .f32⟩
  | .local _ .vmem, ⟨14, _⟩ => ⟨S512, .f32⟩
  | .local _ .vmem, ⟨15, _⟩ => ⟨S512, .f32⟩
  | .local _ .vmem, ⟨16, _⟩ => ⟨S512, .f32⟩
  | .local _ .vmem, ⟨17, _⟩ => ⟨S512x2048, .f32⟩
  | .local _ .vmem, ⟨18, _⟩ => ⟨S2048, .f32⟩
  | .local _ .vmem, ⟨19, _⟩ => ⟨S2048x512, .f32⟩
  | .local _ .vmem, ⟨20, _⟩ => ⟨S512, .f32⟩
  | .local _ .vmem, ⟨21, _⟩ => ⟨S1024x512, .f32⟩
  | .local _ .vmem, ⟨22, _⟩ => ⟨S512, .f32⟩
  | .local _ .vmem, ⟨23, _⟩ => ⟨S512, .f32⟩
  | .local _ .vmem, ⟨24, _⟩ => ⟨S512, .f32⟩
  | .local _ .vmem, ⟨25, _⟩ => ⟨S512x512, .f32⟩
  | .local _ .vmem, ⟨26, _⟩ => ⟨S512, .f32⟩
  | .local _ .vmem, ⟨27, _⟩ => ⟨S512x512, .f32⟩
  | .local _ .vmem, ⟨28, _⟩ => ⟨S512, .f32⟩
  | .local _ .vmem, ⟨29, _⟩ => ⟨S512x256, .f32⟩
  | .local _ .vmem, ⟨30, _⟩ => ⟨S256, .f32⟩
  | .local _ .vmem, ⟨31, _⟩ => ⟨S256x10, .f32⟩
  | .local _ .vmem, ⟨32, _⟩ => ⟨S10, .f32⟩
  | .local _ .vmem, ⟨33, _⟩ => ⟨S64x10, .f32⟩
  | .local _ .vmem, ⟨34, _⟩ => ⟨S64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc1_stg13_0 : Ref sig .tc := ⟨.vmem, 19, rfl⟩
abbrev cc1_stg14_0 : Ref sig .tc := ⟨.vmem, 20, rfl⟩
abbrev cc1_stg15_0 : Ref sig .tc := ⟨.vmem, 21, rfl⟩
abbrev cc1_stg16_0 : Ref sig .tc := ⟨.vmem, 22, rfl⟩
abbrev cc1_stg17_0 : Ref sig .tc := ⟨.vmem, 23, rfl⟩
abbrev cc1_stg18_0 : Ref sig .tc := ⟨.vmem, 24, rfl⟩
abbrev cc1_stg19_0 : Ref sig .tc := ⟨.vmem, 25, rfl⟩
abbrev cc1_stg20_0 : Ref sig .tc := ⟨.vmem, 26, rfl⟩
abbrev cc1_stg21_0 : Ref sig .tc := ⟨.vmem, 27, rfl⟩
abbrev cc1_stg22_0 : Ref sig .tc := ⟨.vmem, 28, rfl⟩
abbrev cc1_stg23_0 : Ref sig .tc := ⟨.vmem, 29, rfl⟩
abbrev cc1_stg24_0 : Ref sig .tc := ⟨.vmem, 30, rfl⟩
abbrev cc1_stg25_0 : Ref sig .tc := ⟨.vmem, 31, rfl⟩
abbrev cc1_stg26_0 : Ref sig .tc := ⟨.vmem, 32, rfl⟩
abbrev cc1_stg27_0 : Ref sig .tc := ⟨.vmem, 33, rfl⟩
abbrev cc1_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem13_0 : DmaSem sig := 19
abbrev cc1_sem14_0 : DmaSem sig := 20
abbrev cc1_sem15_0 : DmaSem sig := 21
abbrev cc1_sem16_0 : DmaSem sig := 22
abbrev cc1_sem17_0 : DmaSem sig := 23
abbrev cc1_sem18_0 : DmaSem sig := 24
abbrev cc1_sem19_0 : DmaSem sig := 25
abbrev cc1_sem20_0 : DmaSem sig := 26
abbrev cc1_sem21_0 : DmaSem sig := 27
abbrev cc1_sem22_0 : DmaSem sig := 28
abbrev cc1_sem23_0 : DmaSem sig := 29
abbrev cc1_sem24_0 : DmaSem sig := 30
abbrev cc1_sem25_0 : DmaSem sig := 31
abbrev cc1_sem26_0 : DmaSem sig := 32
abbrev cc1_sem27_0 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v119 : BitVec 1 := Scalar.cmpi .eq arg0 c31_i32
  let v120 : BitVec 32 := Scalar.extui v119
  let c0_i32_100 : BitVec 32 := 0#32
  let v121 : BitVec 1 := Scalar.cmpi .ne v120 c0_i32_100
  v121

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_17 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_18 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_25 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_26 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_27 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x16x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S20x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S2048 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S2048x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1024x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S512 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S512 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S512 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S512x512 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S512 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S512x512 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S512 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S512x256 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S256 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 1 → Memref sig .tc .vmem S256x10 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false]

abbrev stage1_26 : Fin 1 → Memref sig .tc .vmem S10 .f32 := fun | 0 => Memref.whole cc1_stg26_0 | ⟨_ + 1, h⟩ => absurd h (Nat.not_lt.2 (Nat.le_add_left _ _))
abbrev sem1_26 : Fin 1 → DmaSem sig := fun | 0 => cc1_sem26_0 | ⟨_ + 1, h⟩ => absurd h (Nat.not_lt.2 (Nat.le_add_left _ _))
abbrev reads1_26 : Fin grid1.rank → Bool := ![false]

abbrev stage1_27 : Fin 1 → Memref sig .tc .vmem S64x10 .f32 := fun | 0 => Memref.whole cc1_stg27_0 | ⟨_ + 1, h⟩ => absurd h (Nat.not_lt.2 (Nat.le_add_left _ _))
abbrev sem1_27 : Fin 1 → DmaSem sig := fun | 0 => cc1_sem27_0 | ⟨_ + 1, h⟩ => absurd h (Nat.not_lt.2 (Nat.le_add_left _ _))
abbrev reads1_27 : Fin grid1.rank → Bool := ![false]
-- ==== KernelIdeal.lean ====
variable {F : FTy → Type} [FloatOps F] [Named F]
def κ : String → Option EReal := fun
  | "inv_hw" => some ((784⁻¹ : ℝ) : EReal)
  | _ => none
-- ==== ReferenceIdeal.lean ====
abbrev S64x512 : Shape := ⟨2, ![64, 512]⟩
abbrev S64x512x28x28 : Shape := ⟨4, ![64, 512, 28, 28]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S2048x512 : Shape := ⟨2, ![2048, 512]⟩
abbrev S262144x512 : Shape := ⟨2, ![262144, 512]⟩
abbrev S20x512 : Shape := ⟨2, ![20, 512]⟩
abbrev S1024x512 : Shape := ⟨2, ![1024, 512]⟩
abbrev S512x256 : Shape := ⟨2, ![512, 256]⟩
abbrev S256 : Shape := ⟨1, ![256]⟩
abbrev S256x10 : Shape := ⟨2, ![256, 10]⟩
abbrev S10 : Shape := ⟨1, ![10]⟩
abbrev S1x512 : Shape := ⟨2, ![1, 512]⟩
abbrev S_ : Shape := ⟨0, ![]⟩
abbrev S64 : Shape := ⟨1, ![64]⟩
abbrev S64x1 : Shape := ⟨2, ![64, 1]⟩
abbrev S64x2048 : Shape := ⟨2, ![64, 2048]⟩
abbrev S1x2048 : Shape := ⟨2, ![1, 2048]⟩
abbrev S64x512x784 : Shape := ⟨3, ![64, 512, 784]⟩
abbrev S64x512x512 : Shape := ⟨3, ![64, 512, 512]⟩
abbrev S64x262144 : Shape := ⟨2, ![64, 262144]⟩
abbrev S512x20 : Shape := ⟨2, ![512, 20]⟩
abbrev S64x20 : Shape := ⟨2, ![64, 20]⟩
abbrev S20 : Shape := ⟨1, ![20]⟩
abbrev S1x20 : Shape := ⟨2, ![1, 20]⟩
abbrev S64x1024 : Shape := ⟨2, ![64, 1024]⟩
abbrev S64x256 : Shape := ⟨2, ![64, 256]⟩
abbrev S1x256 : Shape := ⟨2, ![1, 256]⟩
abbrev S64x10 : Shape := ⟨2, ![64, 10]⟩
abbrev S1x10 : Shape := ⟨2, ![1, 10]⟩

abbrev nBuf : Space → Nat
  | .hbm => 252
  | .vmem => 0
  | .smem => 0
  | _ => 0

abbrev hbmTy0_0 (i : Nat) : BufTy := match i % 128 with
  | 0 => ⟨S64x512, .f32⟩
  | 1 => ⟨S64x512x28x28, .f32⟩
  | 2 => ⟨S512x512, .f32⟩
  | 3 => ⟨S512, .f32⟩
  | 4 => ⟨S512x512, .f32⟩
  | 5 => ⟨S512, .f32⟩
  | 6 => ⟨S512, .f32⟩
  | 7 => ⟨S512, .f32⟩
  | 8 => ⟨S512x2048, .f32⟩
  | 9 => ⟨S2048, .f32⟩
  | 10 => ⟨S2048x512, .f32⟩
  | 11 => ⟨S512, .f32⟩
  | 12 => ⟨S262144x512, .f32⟩
  | 13 => ⟨S512, .f32⟩
  | 14 => ⟨S20x512, .f32⟩
  | 15 => ⟨S1024x512, .f32⟩
  | 16 => ⟨S512, .f32⟩
  | 17 => ⟨S512, .f32⟩
  | 18 => ⟨S512, .f32⟩
  | 19 => ⟨S512x512, .f32⟩
  | 20 => ⟨S512, .f32⟩
  | 21 => ⟨S512x512, .f32⟩
  | 22 => ⟨S512, .f32⟩
  | 23 => ⟨S512x256, .f32⟩
  | 24 => ⟨S256, .f32⟩
  | 25 => ⟨S256x10, .f32⟩
  | 26 => ⟨S10, .f32⟩
  | 27 => ⟨S64x512, .f32⟩
  | 28 => ⟨S1x512, .f32⟩
  | 29 => ⟨S64x512, .f32⟩
  | 30 => ⟨S64x512, .f32⟩
  | 31 => ⟨S_, .f32⟩
  | 32 => ⟨S64x512, .f32⟩
  | 33 => ⟨S64x512, .f32⟩
  | 34 => ⟨S64x512, .f32⟩
  | 35 => ⟨S1x512, .f32⟩
  | 36 => ⟨S64x512, .f32⟩
  | 37 => ⟨S64x512, .f32⟩
  | 38 => ⟨S64x512, .f32⟩
  | 39 => ⟨S64x512, .f32⟩
  | 40 => ⟨S_, .f32⟩
  | 41 => ⟨S64x512, .f32⟩
  | 42 => ⟨S64x512, .f32⟩
  | 43 => ⟨S_, .f32⟩
  | 44 => ⟨S64x512, .f32⟩
  | 45 => ⟨S64x512, .f32⟩
  | 46 => ⟨S64x512, .f32⟩
  | 47 => ⟨S_, .f32⟩
  | 48 => ⟨S64, .f32⟩
  | 49 => ⟨S64x1, .f32⟩
  | 50 => ⟨S_, .f32⟩
  | 51 => ⟨S64x1, .f32⟩
  | 52 => ⟨S64x1, .f32⟩
  | 53 => ⟨S_, .i32⟩
  | 54 => ⟨S_, .f32⟩
  | 55 => ⟨S64, .f32⟩
  | 56 => ⟨S64x1, .f32⟩
  | 57 => ⟨S_, .f32⟩
  | 58 => ⟨S64x1, .f32⟩
  | 59 => ⟨S64x1, .f32⟩
  | 60 => ⟨S64x512, .f32⟩
  | 61 => ⟨S64x512, .f32⟩
  | 62 => ⟨S64x512, .f32⟩
  | 63 => ⟨S_, .f32⟩
  | 64 => ⟨S_, .f32⟩
  | 65 => ⟨S_, .f32⟩
  | 66 => ⟨S_, .f32⟩
  | 67 => ⟨S64, .f32⟩
  | 68 => ⟨S64x1, .f32⟩
  | 69 => ⟨S64x1, .f32⟩
  | 70 => ⟨S64x1, .f32⟩
  | 71 => ⟨S_, .f32⟩
  | 72 => ⟨S_, .i1⟩
  | 73 => ⟨S_, .f32⟩
  | 74 => ⟨S_, .f32⟩
  | 75 => ⟨S64x1, .f32⟩
  | 76 => ⟨S64x1, .f32⟩
  | 77 => ⟨S64x512, .f32⟩
  | 78 => ⟨S64x512, .f32⟩
  | 79 => ⟨S_, .f32⟩
  | 80 => ⟨S64x1, .f32⟩
  | 81 => ⟨S64x1, .f32⟩
  | 82 => ⟨S64x1, .f32⟩
  | 83 => ⟨S64x512, .f32⟩
  | 84 => ⟨S64x512, .f32⟩
  | 85 => ⟨S1x512, .f32⟩
  | 86 => ⟨S64x512, .f32⟩
  | 87 => ⟨S64x512, .f32⟩
  | 88 => ⟨S1x512, .f32⟩
  | 89 => ⟨S64x512, .f32⟩
  | 90 => ⟨S64x512, .f32⟩
  | 91 => ⟨S64x2048, .f32⟩
  | 92 => ⟨S1x2048, .f32⟩
  | 93 => ⟨S64x2048, .f32⟩
  | 94 => ⟨S64x2048, .f32⟩
  | 95 => ⟨S_, .f32⟩
  | 96 => ⟨S64x2048, .f32⟩
  | 97 => ⟨S64x2048, .f32⟩
  | 98 => ⟨S64x2048, .f32⟩
  | 99 => ⟨S_, .f32⟩
  | 100 => ⟨S64x2048, .f32⟩
  | 101 => ⟨S64x2048, .f32⟩
  | 102 => ⟨S64x2048, .f32⟩
  | 103 => ⟨S64x2048, .f32⟩
  | 104 => ⟨S64x512, .f32⟩
  | 105 => ⟨S1x512, .f32⟩
  | 106 => ⟨S64x512, .f32⟩
  | 107 => ⟨S64x512, .f32⟩
  | 108 => ⟨S64x512, .f32⟩
  | 109 => ⟨S64x512x784, .f32⟩
  | 110 => ⟨S64x512x512, .f32⟩
  | 111 => ⟨S_, .f32⟩
  | 112 => ⟨S64x512x512, .f32⟩
  | 113 => ⟨S64x512x512, .f32⟩
  | 114 => ⟨S64x262144, .f32⟩
  | 115 => ⟨S64x512, .f32⟩
  | 116 => ⟨S1x512, .f32⟩
  | 117 => ⟨S64x512, .f32⟩
  | 118 => ⟨S64x512, .f32⟩
  | 119 => ⟨S64x512, .f32⟩
  | 120 => ⟨S_, .f32⟩
  | 121 => ⟨S64, .f32⟩
  | 122 => ⟨S64x1, .f32⟩
  | 123 => ⟨S_, .f32⟩
  | 124 => ⟨S64x512, .f32⟩
  | 125 => ⟨S64x512, .f32⟩
  | 126 => ⟨S512x20, .f32⟩
  | 127 => ⟨S64x20, .f32⟩
  | _ => ⟨S64x512, .f32⟩

abbrev hbmTy0_1 (i : Nat) : BufTy := match i % 128 with
  | 0 => ⟨S64x20, .f32⟩
  | 1 => ⟨S64x20, .f32⟩
  | 2 => ⟨S20x512, .f32⟩
  | 3 => ⟨S_, .f32⟩
  | 4 => ⟨S20, .f32⟩
  | 5 => ⟨S1x20, .f32⟩
  | 6 => ⟨S64x20, .f32⟩
  | 7 => ⟨S64x20, .f32⟩
  | 8 => ⟨S64x20, .i32⟩
  | 9 => ⟨S_, .f32⟩
  | 10 => ⟨S_, .i32⟩
  | 11 => ⟨S64, .f32⟩
  | 12 => ⟨S64, .i32⟩
  | 13 => ⟨S_, .i32⟩
  | 14 => ⟨S64, .i32⟩
  | 15 => ⟨S64, .i1⟩
  | 16 => ⟨S_, .i32⟩
  | 17 => ⟨S64, .i32⟩
  | 18 => ⟨S64, .i32⟩
  | 19 => ⟨S64, .i32⟩
  | 20 => ⟨S64x1, .i32⟩
  | 21 => ⟨S64x512, .f32⟩
  | 22 => ⟨S64x1024, .f32⟩
  | 23 => ⟨S64x512, .f32⟩
  | 24 => ⟨S1x512, .f32⟩
  | 25 => ⟨S64x512, .f32⟩
  | 26 => ⟨S64x512, .f32⟩
  | 27 => ⟨S_, .f32⟩
  | 28 => ⟨S64x512, .f32⟩
  | 29 => ⟨S64x512, .f32⟩
  | 30 => ⟨S64x512, .f32⟩
  | 31 => ⟨S_, .f32⟩
  | 32 => ⟨S64x512, .f32⟩
  | 33 => ⟨S64x512, .f32⟩
  | 34 => ⟨S64x512, .f32⟩
  | 35 => ⟨S64x512, .f32⟩
  | 36 => ⟨S_, .f32⟩
  | 37 => ⟨S64, .f32⟩
  | 38 => ⟨S64x1, .f32⟩
  | 39 => ⟨S_, .f32⟩
  | 40 => ⟨S64x1, .f32⟩
  | 41 => ⟨S64x1, .f32⟩
  | 42 => ⟨S_, .i32⟩
  | 43 => ⟨S_, .f32⟩
  | 44 => ⟨S64, .f32⟩
  | 45 => ⟨S64x1, .f32⟩
  | 46 => ⟨S_, .f32⟩
  | 47 => ⟨S64x1, .f32⟩
  | 48 => ⟨S64x1, .f32⟩
  | 49 => ⟨S64x512, .f32⟩
  | 50 => ⟨S64x512, .f32⟩
  | 51 => ⟨S64x512, .f32⟩
  | 52 => ⟨S_, .f32⟩
  | 53 => ⟨S_, .f32⟩
  | 54 => ⟨S_, .f32⟩
  | 55 => ⟨S_, .f32⟩
  | 56 => ⟨S64, .f32⟩
  | 57 => ⟨S64x1, .f32⟩
  | 58 => ⟨S64x1, .f32⟩
  | 59 => ⟨S64x1, .f32⟩
  | 60 => ⟨S_, .f32⟩
  | 61 => ⟨S_, .i1⟩
  | 62 => ⟨S_, .f32⟩
  | 63 => ⟨S_, .f32⟩
  | 64 => ⟨S64x1, .f32⟩
  | 65 => ⟨S64x1, .f32⟩
  | 66 => ⟨S64x512, .f32⟩
  | 67 => ⟨S64x512, .f32⟩
  | 68 => ⟨S_, .f32⟩
  | 69 => ⟨S64x1, .f32⟩
  | 70 => ⟨S64x1, .f32⟩
  | 71 => ⟨S64x1, .f32⟩
  | 72 => ⟨S64x512, .f32⟩
  | 73 => ⟨S64x512, .f32⟩
  | 74 => ⟨S1x512, .f32⟩
  | 75 => ⟨S64x512, .f32⟩
  | 76 => ⟨S64x512, .f32⟩
  | 77 => ⟨S1x512, .f32⟩
  | 78 => ⟨S64x512, .f32⟩
  | 79 => ⟨S64x512, .f32⟩
  | 80 => ⟨S64x512, .f32⟩
  | 81 => ⟨S1x512, .f32⟩
  | 82 => ⟨S64x512, .f32⟩
  | 83 => ⟨S64x512, .f32⟩
  | 84 => ⟨S_, .f32⟩
  | 85 => ⟨S64x512, .f32⟩
  | 86 => ⟨S64x512, .f32⟩
  | 87 => ⟨S64x512, .f32⟩
  | 88 => ⟨S_, .f32⟩
  | 89 => ⟨S64x512, .f32⟩
  | 90 => ⟨S64x512, .f32⟩
  | 91 => ⟨S64x512, .f32⟩
  | 92 => ⟨S64x512, .f32⟩
  | 93 => ⟨S64x512, .f32⟩
  | 94 => ⟨S64x512, .f32⟩
  | 95 => ⟨S1x512, .f32⟩
  | 96 => ⟨S64x512, .f32⟩
  | 97 => ⟨S64x512, .f32⟩
  | 98 => ⟨S_, .f32⟩
  | 99 => ⟨S64x512, .f32⟩
  | 100 => ⟨S64x512, .f32⟩
  | 101 => ⟨S64x512, .f32⟩
  | 102 => ⟨S_, .f32⟩
  | 103 => ⟨S64x512, .f32⟩
  | 104 => ⟨S64x512, .f32⟩
  | 105 => ⟨S64x512, .f32⟩
  | 106 => ⟨S64x512, .f32⟩
  | 107 => ⟨S64x256, .f32⟩
  | 108 => ⟨S1x256, .f32⟩
  | 109 => ⟨S64x256, .f32⟩
  | 110 => ⟨S64x256, .f32⟩
  | 111 => ⟨S_, .f32⟩
  | 112 => ⟨S64x256, .f32⟩
  | 113 => ⟨S64x256, .f32⟩
  | 114 => ⟨S64x256, .f32⟩
  | 115 => ⟨S_, .f32⟩
  | 116 => ⟨S64x256, .f32⟩
  | 117 => ⟨S64x256, .f32⟩
  | 118 => ⟨S64x256, .f32⟩
  | 119 => ⟨S64x256, .f32⟩
  | 120 => ⟨S64x10, .f32⟩
  | 121 => ⟨S1x10, .f32⟩
  | 122 => ⟨S64x10, .f32⟩
  | 123 => ⟨S64x10, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_call0_cst : Ref sig .tc := ⟨.hbm, 31, rfl⟩
abbrev main_call0_v0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_cst_0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_1 : Ref sig .tc := ⟨.hbm, 47, rfl⟩
abbrev main_v16 : Ref sig .tc := ⟨.hbm, 48, rfl⟩
abbrev main_v17 : Ref sig .tc := ⟨.hbm, 49, rfl⟩
abbrev main_cst_2 : Ref sig .tc := ⟨.hbm, 50, rfl⟩
abbrev main_v18 : Ref sig .tc := ⟨.hbm, 51, rfl⟩
abbrev main_v19 : Ref sig .tc := ⟨.hbm, 52, rfl⟩
abbrev main_c : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_cst_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_cst_1 : Ref sig .tc := ⟨.hbm, 64, rfl⟩
abbrev main_call1_v8 : Ref sig .tc := ⟨.hbm, 65, rfl⟩
abbrev main_call1_cst_2 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_cst_3 : Ref sig .tc := ⟨.hbm, 71, rfl⟩
abbrev main_call1_v13 : Ref sig .tc := ⟨.hbm, 72, rfl⟩
abbrev main_call1_cst_4 : Ref sig .tc := ⟨.hbm, 73, rfl⟩
abbrev main_call1_call0_v0 : Ref sig .tc := ⟨.hbm, 74, rfl⟩
abbrev main_call1_call0_v1 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_cst_3 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_cst_4 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_cst_5 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_cst_6 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_cst_7 : Ref sig .tc := ⟨.hbm, 120, rfl⟩
abbrev main_v60 : Ref sig .tc := ⟨.hbm, 121, rfl⟩
abbrev main_v61 : Ref sig .tc := ⟨.hbm, 122, rfl⟩
abbrev main_cst_8 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_cst_9 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_call2_v0 : Ref sig .tc := ⟨.hbm, 136, rfl⟩
abbrev main_call2_cst : Ref sig .tc := ⟨.hbm, 137, rfl⟩
abbrev main_call2_c : Ref sig .tc := ⟨.hbm, 138, rfl⟩
abbrev main_call2_v1_0 : Ref sig .tc := ⟨.hbm, 139, rfl⟩
abbrev main_v73 : Ref sig .tc := ⟨.hbm, 140, rfl⟩
abbrev main_c_10 : Ref sig .tc := ⟨.hbm, 141, rfl⟩
abbrev main_v74 : Ref sig .tc := ⟨.hbm, 142, rfl⟩
abbrev main_v75 : Ref sig .tc := ⟨.hbm, 143, rfl⟩
abbrev main_c_11 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_cst_12 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_cst_13 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_cst_14 : Ref sig .tc := ⟨.hbm, 164, rfl⟩
abbrev main_v93 : Ref sig .tc := ⟨.hbm, 165, rfl⟩
abbrev main_v94 : Ref sig .tc := ⟨.hbm, 166, rfl⟩
abbrev main_cst_15 : Ref sig .tc := ⟨.hbm, 167, rfl⟩
abbrev main_v95 : Ref sig .tc := ⟨.hbm, 168, rfl⟩
abbrev main_v96 : Ref sig .tc := ⟨.hbm, 169, rfl⟩
abbrev main_c_16 : Ref sig .tc := ⟨.hbm, 170, rfl⟩
abbrev main_call3_cst : Ref sig .tc := ⟨.hbm, 171, rfl⟩
abbrev main_call3_v0 : Ref sig .tc := ⟨.hbm, 172, rfl⟩
abbrev main_call3_v1 : Ref sig .tc := ⟨.hbm, 173, rfl⟩
abbrev main_call3_cst_0 : Ref sig .tc := ⟨.hbm, 174, rfl⟩
abbrev main_call3_v2 : Ref sig .tc := ⟨.hbm, 175, rfl⟩
abbrev main_call3_v3 : Ref sig .tc := ⟨.hbm, 176, rfl⟩
abbrev main_call3_v4 : Ref sig .tc := ⟨.hbm, 177, rfl⟩
abbrev main_call3_v5 : Ref sig .tc := ⟨.hbm, 178, rfl⟩
abbrev main_call3_v6 : Ref sig .tc := ⟨.hbm, 179, rfl⟩
abbrev main_call3_v7 : Ref sig .tc := ⟨.hbm, 180, rfl⟩
abbrev main_call3_cst_1 : Ref sig .tc := ⟨.hbm, 181, rfl⟩
abbrev main_call3_v8 : Ref sig .tc := ⟨.hbm, 182, rfl⟩
abbrev main_call3_cst_2 : Ref sig .tc := ⟨.hbm, 183, rfl⟩
abbrev main_call3_v9 : Ref sig .tc := ⟨.hbm, 184, rfl⟩
abbrev main_call3_v10 : Ref sig .tc := ⟨.hbm, 185, rfl⟩
abbrev main_call3_v11 : Ref sig .tc := ⟨.hbm, 186, rfl⟩
abbrev main_call3_v12 : Ref sig .tc := ⟨.hbm, 187, rfl⟩
abbrev main_call3_cst_3 : Ref sig .tc := ⟨.hbm, 188, rfl⟩
abbrev main_call3_v13 : Ref sig .tc := ⟨.hbm, 189, rfl⟩
abbrev main_call3_cst_4 : Ref sig .tc := ⟨.hbm, 190, rfl⟩
abbrev main_call3_call0_v0 : Ref sig .tc := ⟨.hbm, 191, rfl⟩
abbrev main_call3_call0_v1 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_cst_17 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_v111 : Ref sig .tc := ⟨.hbm, 208, rfl⟩
abbrev main_v112 : Ref sig .tc := ⟨.hbm, 209, rfl⟩
abbrev main_v113 : Ref sig .tc := ⟨.hbm, 210, rfl⟩
abbrev main_v114 : Ref sig .tc := ⟨.hbm, 211, rfl⟩
abbrev main_cst_18 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_cst_19 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_cst_20 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_cst_21 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_cst_22 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_cst_23 : Ref sig .tc := ⟨.hbm, 243, rfl⟩
abbrev main_v141 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩

abbrev nD : Nat := 1
abbrev τ : Topo := Topo.v7x

variable {F : FTy → Type} [FloatOps F]
-- ==== Proof.GramRegion.lean ====
/- The first pallas_call, on one grid point and as a pipeline: what its body leaves in the output block, and the
   obligation the launch asks of it. Stated over any element type, at whatever contents `V` the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Batch row `b` of the input block. -/
abbrev rowIn (b : Fin 8) : Rect S8x512x784 :=
  Rect.unit (s := S8x512x784) ![b.val, 0, 0] S1x512x784.size (by revert b; decide)

/-- Batch row `b` of the output block. -/
abbrev rowOut (b : Fin 8) : Rect S8x512x512 :=
  Rect.unit (s := S8x512x512) ![b.val, 0, 0] S1x512x512.size (by revert b; decide)

/-- One scaled Gram matrix: `x · xᵀ` times the named constant, narrowed. -/
def gramRow (x : Vec F S1x512x784 .f32) : Vec F S1x512x512 .bf16 := k0_pay3 x

/-- The stores of one run of the body, the last first. -/
def stores (x : Vec F S8x512x784 .f32) : List (View.Piece (Elt F) S8x512x512 .bf16) :=
  [⟨rowOut 7, gramRow (View.ld x (rowIn 7))⟩, ⟨rowOut 6, gramRow (View.ld x (rowIn 6))⟩,
    ⟨rowOut 5, gramRow (View.ld x (rowIn 5))⟩, ⟨rowOut 4, gramRow (View.ld x (rowIn 4))⟩,
    ⟨rowOut 3, gramRow (View.ld x (rowIn 3))⟩, ⟨rowOut 2, gramRow (View.ld x (rowIn 2))⟩,
    ⟨rowOut 1, gramRow (View.ld x (rowIn 1))⟩, ⟨rowOut 0, gramRow (View.ld x (rowIn 0))⟩]

/-- The output block after the body. -/
def grams (x : Vec F S8x512x784 .f32) : Vec F S8x512x512 .bf16 := View.canon (stores x)

/-- The eight stores tile the output block. -/
theorem stores_cover (x : Vec F S8x512x784 .f32) (y : S8x512x512.Idx) : ∃ pc ∈ stores x, y ∈ pc.1.set :=
  View.cover_of_tiled (stores x) S1x512x512.size (by rfl) y

set_option maxHeartbeats 1000000 in
/-- The body's triple: the input block stays, the output block becomes `grams` of it. -/
theorem body_wp (c : Dev nD) (E : Set ℕ) (i : grid0.Coords) (a : Memref sig .tc .vmem S8x512x784 .f32) (ha : a.IsWhole)
    (o : Memref sig .tc .vmem S8x512x512 .bf16) (ho : o.IsWhole) (x : Vec F S8x512x784 .f32) (K : PUnit → sProp 𝕄) :
    iprop(owns (c : Thread nD τ) a fullShare x ∗ (∃ d, owns (c : Thread nD τ) o fullShare d)
        ∗ (iprop(owns (c : Thread nD τ) a fullShare x ∗ owns (c : Thread nD τ) o fullShare (grams x)) -∗ K ⟨⟩))
      ⊢ wp frame (wpE (defs₀ (F := F)) Variants.none c none) E (cc0_gram_bmm i a ha o ho) K := by
  simp only [cc0_gram_bmm_eq_skeleton]; unfold cc0_gram_bmm_skel
  simp only [k0_part1_eq_skeleton, k0_part2_eq_skeleton]
  unfold owns
  iintro ⟨⟨%f, %hf, Ha⟩, ⟨%d, %g, -, Ho⟩, Hk⟩
  subst hf
  sl_exec
  sl_step
  iapply Hk
  isplitl [Ha]
  · iexists f; isplitr; · ipureintro; rfl
    iexact Ha
  iexists _; isplitr
  swap; · iexact Ho
  ipureintro
  exact View.read_writes_eq_canon _ _ (stores (a.view.read (Elt F) f)) (stores_cover _)

section Entry
variable (V : (c : Dev nD) → (b : Ref sig .tc) → Buf (Elt F) ((c : Thread nD τ).loc b))

/-- The input block of point `t`. -/
def blkIn (c : Dev nD) (t : Fin cfg0.N) : Vec F S8x512x784 .f32 :=
  ((cfg0.win 0).blk t).view.read (Elt F) (V c (Pipeline.arrRef spec0 0))

/-- The pipeline's proof data: the input block stays, the output block is `grams` of it, nothing else is touched. -/
def dat (c : Dev nD) : Dat τ (Elt F) Unit ℕ (UR sig nD τ) ℕ cfg0 c where
  A w := V c (Pipeline.arrRef spec0 w)
  after w t := match w with
    | ⟨0, _⟩ => blkIn V c t
    | ⟨1, _⟩ => grams (blkIn V c t)
  Φ _ := Pipeline.ΦA spec0 c
  q _ := fullShare
  owed _ := 0

/-- The arrays are entered with what the buffers hold. -/
theorem A_eq (c : Dev nD) (w : Fin cfg0.W) : (dat V c).A w = V c (Pipeline.arrRef spec0 w) := by dsimp only [dat]
/-- The input block stays. -/
theorem after_in (c : Dev nD) (t : Fin cfg0.N) : (dat V c).after 0 t = blkIn V c t := by dsimp only [dat]
/-- The output block is the Gram matrices of the input block. -/
theorem after_out (c : Dev nD) (t : Fin cfg0.N) : (dat V c).after 1 t = grams (blkIn V c t) := by dsimp only [dat]

/-- The input's staging buffer holds the point's block when the body starts. -/
theorem before_in (c : Dev nD) (t : Fin cfg0.N) (d) : (dat V c).before 0 t d = blkIn V c t :=
  ((dat V c).before_in_eq_fetched 0 rfl (fun _ => rfl) (fun _ _ _ => rfl)
    (fun t => by rw [after_in]; unfold Dat.blockOf blkIn; rw [A_eq]) t d).trans
    (by unfold Dat.fetched Dat.blockOf blkIn; rw [A_eq]; rfl)

/-- The body at a point, from what the pipeline hands it to what the pipeline takes back. -/
theorem point_wp (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d)))
    ⊢ wp frame (wpE (defs₀ (F := F)) Variants.none c none) Set.univ (bodyAt0 t) (fun _ =>
      iprop((dat V c).Φ t.succ ∗ (dat V c).owesAt () t.succ
        ∗ owns (c : Thread nD τ) (st0_0 t) fullShare ((dat V c).after 0 t)
        ∗ owns (c : Thread nD τ) (st0_1 t) fullShare ((dat V c).after 1 t))) := by
  unfold bodyAt0
  simp only [before_in]
  rw [show (dat V c).Φ t.succ = (dat V c).Φ t.castSucc from rfl,
    show (dat V c).owesAt () t.succ = (dat V c).owesAt () t.castSucc from rfl, after_in, after_out]
  iintro ⟨HΦ, Hw, ⟨%d, H⟩, ⟨%e, G⟩⟩
  iapply (body_wp c Set.univ (grid0.coords t) _ _ _ _ (blkIn V c t) _)
  isplitl [H]; · iexact H
  isplitl [G]; · iexists _; iexact G
  iintro ⟨H, G⟩
  isplitl [HΦ]; · iexact HΦ
  isplitl [Hw]; · iexact Hw
  isplitl [H]; · iexact H
  iexact G

theorem row (t : Fin cfg0.N) : defs₀ (F := F) .tc cfg0.body (cfg0.bodyArgs t (cfg0.slots t)) = bodyAt0 t := by
  unfold defs₀; rw [Defs.onTc_tc]

/-- The library's obligation for the body, at every point. -/
theorem obligation (c : Dev nD) : BodyObligation (dat (F := F) V c) (defs₀ (F := F)) Variants.none () Set.univ := fun t => by
  rw [bigSep_W0, bigSep_W0, row]
  exact triple_restated (point_wp V c t) rfl .rfl fun _ => .rfl

end Entry
end Cert.KernelIdeal.Gram
-- ==== Proof.HeadBody.lean ====
/- The second pallas_call on one grid point: what its body does to the carried sum and, at the last point, to the output.
   Stated over any element type. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.SparseCore.ProtocolKit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The operands the second call reads whole. -/
structure Weights (F : FTy → Type) [FloatOps F] where
  x_embed : Vec F S64x512 .f32
  gram_b : Vec F S512 .f32
  centers : Vec F S20x512 .f32
  attn_w1 : Vec F S512x512 .f32
  attn_b1 : Vec F S512 .f32
  attn_w2 : Vec F S512x512 .f32
  attn_b2 : Vec F S512 .f32
  ln_ff_g : Vec F S512 .f32
  ln_ff_b : Vec F S512 .f32
  ff_w1 : Vec F S512x2048 .f32
  ff_b1 : Vec F S2048 .f32
  ff_w2 : Vec F S2048x512 .f32
  ff_b2 : Vec F S512 .f32
  gm_w : Vec F S1024x512 .f32
  gm_b : Vec F S512 .f32
  ln1_g : Vec F S512 .f32
  ln1_b : Vec F S512 .f32
  m1_w : Vec F S512x512 .f32
  m1_b : Vec F S512 .f32
  m2_w1 : Vec F S512x512 .f32
  m2_b1 : Vec F S512 .f32
  m2_w2 : Vec F S512x256 .f32
  m2_b2 : Vec F S256 .f32
  out_w : Vec F S256x10 .f32
  out_b : Vec F S10 .f32

/-- Row `j` of every batch element of the Gram block. -/
abbrev rowG (j : Fin 16) : Rect S64x16x512 :=
  Rect.unit (s := S64x16x512) ![0, j.val, 0] S64x1x512.size (by revert j; decide)

/-- Slab `j` of the weight block. -/
abbrev rowW (j : Fin 16) : Rect S16x512x512 :=
  Rect.unit (s := S16x512x512) ![j.val, 0, 0] S1x512x512.size (by revert j; decide)

/-- The sum after one point: the sum before it and the sixteen products of the point's blocks. -/
def step (g : Vec F S64x16x512 .bf16) (w : Vec F S16x512x512 .f32) (acc : Vec F S64x512 .f32) : Vec F S64x512 .f32 :=
  let a (j : Fin 16) := View.ld g (rowG j)
  let b (j : Fin 16) := View.ld w (rowW j)
  k1_pay19
    (k1_pay18
      (k1_pay15 (k1_pay13 acc (a 0) (b 0) (a 1) (b 1) (a 2) (b 2)) (k1_pay14 (a 3)) (b 3) (a 4) (b 4) (a 5) (b 5) (a 6) (b 6))
      (k1_pay16 (a 7)) (k1_pay17 (b 7)) (constant S64x512 .f32 0x00000000#32) (a 8) (b 8) (a 9) (b 9) (a 10) (b 10) (a 11) (b 11))
    (a 12) (b 12) (a 13) (b 13) (a 14) (b 14) (a 15) (b 15)

/-- The upper half of the first fused weight, -/
abbrev halfA : Rect S1024x512 := Rect.unit (s := S1024x512) ![0, 0] S512x512.size inb_S1024x512_S512x512_0_0
/-- and its lower half. -/
abbrev halfB : Rect S1024x512 := Rect.unit (s := S1024x512) ![512, 0] S512x512.size inb_S1024x512_S512x512_512_0

/-- The gated and residual branch of the head, from the whole operands. -/
def xMain (W : Weights F) : FVec F S64x512 .f32 :=
  k1_pay4 (k1_pay2 W.x_embed W.attn_w1 W.attn_b1 W.attn_w2 W.attn_b2) W.ln_ff_g W.ln_ff_b
    (k1_pay3 W.x_embed W.attn_w1 W.attn_b1 W.attn_w2 W.attn_b2) W.ff_w1 W.ff_b1 W.ff_w2 W.ff_b2

/-- The fused features, from the finished sum. -/
def xFused (W : Weights F) (acc : Vec F S64x512 .f32) : FVec F S64x512 .f32 :=
  k1_pay9 (xMain W) W.centers (k1_pay6 W.centers) (k1_pay7 acc W.gram_b W.centers) (k1_pay8 acc W.gram_b)
    (View.ld W.gm_w halfA) (View.ld W.gm_w halfB) W.gm_b

/-- The row sums of the fused features. -/
def xFusedSum (W : Weights F) (acc : Vec F S64x512 .f32) : FVec F S64x1 .f32 :=
  k1_pay10 (xMain W) W.centers (k1_pay6 W.centers) (k1_pay7 acc W.gram_b W.centers) (k1_pay8 acc W.gram_b)
    (View.ld W.gm_w halfA) (View.ld W.gm_w halfB) W.gm_b

/-- The output block, from the finished sum. -/
def head (W : Weights F) (acc : Vec F S64x512 .f32) : Vec F S64x10 .f32 :=
  k1_pay1 (k1_pay11 (xFused W acc) W.ln1_g W.ln1_b (xFusedSum W acc) (Scalar.ofBits .f32 0x44000000#32) W.m1_w W.m1_b W.m2_w1 W.m2_b1)
    (Scalar.ofBits .f32 0x3F000000#32) W.m2_w2 W.m2_b2 W.out_w W.out_b

/-- The first point's test: the sum is to be zeroed. -/
abbrev first (i : grid1.Coords) : Prop :=
  Scalar.cmpi .ne (Scalar.extui (Scalar.cmpi .eq (BitVec.ofNat 32 (i 0).val) 0#32)) 0#32 = (1#1 : BitVec 1)

/-- The last point's test: the head is to be run. -/
abbrev last (i : grid1.Coords) : Prop := k1_cond2 i = 1#1

open scoped Classical in
/-- The sum a point starts from: zero at the first, what it finds elsewhere. -/
def start (i : grid1.Coords) (acc : Vec F S64x512 .f32) : Vec F S64x512 .f32 := if first i then k1_pay12 else acc

open scoped Classical in
/-- What a point leaves in the output block. -/
def result (i : grid1.Coords) (W : Weights F) (acc : Vec F S64x512 .f32) (d : Vec F S64x10 .f32) : Vec F S64x10 .f32 :=
  if last i then head W acc else d

/-- Holding a whole memref at values `X` is holding its buffer at the one content that reads `X`. -/
theorem owns_unread (c : Thread nD τ) {sp : Space} {sh : Shape} {e : EltTy} {m : Memref sig c.2.kind sp sh e} (h : m.IsWhole)
    (X : sh.Idx → Elt F e) : (owns c m fullShare X : sProp 𝕄) = (m.view.loc c ↦[m.view.set]{fullShare} h.unread X) := by
  have open_ : (owns c m fullShare X : sProp 𝕄) ⊢ (m.view.loc c ↦[m.view.set]{fullShare} h.unread X) := by
    unfold owns
    iintro ⟨%f, %e, H⟩
    obtain rfl := h.eq_unread e
    iexact H
  have close_ : (m.view.loc c ↦[m.view.set]{fullShare} h.unread X) ⊢ (owns c m fullShare X : sProp 𝕄) := by
    unfold owns
    iintro H; iexists _; isplitr; · ipureintro; exact h.read_unread X
    iexact H
  exact BI.equiv_iff.mp ⟨open_, close_⟩

set_option maxHeartbeats 4000000 in
/-- The body's triple: the operands stay, the carried sum takes the point's step, the output block takes the head's value
    at the last point and stays elsewhere. -/
theorem body_wp (c : Dev nD) (E : Set ℕ) (i : grid1.Coords) (hx : first i → ¬ last i)
    (mG : Memref sig .tc .vmem S64x16x512 .bf16) (hG : mG.IsWhole) (mB : Memref sig .tc .vmem S16x512x512 .f32) (hB : mB.IsWhole) (m0 : Memref sig .tc .vmem S64x512 .f32) (h0 : m0.IsWhole) (m1 : Memref sig .tc .vmem S512 .f32) (h1 : m1.IsWhole) (m2 : Memref sig .tc .vmem S20x512 .f32) (h2 : m2.IsWhole) (m3 : Memref sig .tc .vmem S512x512 .f32) (h3 : m3.IsWhole) (m4 : Memref sig .tc .vmem S512 .f32) (h4 : m4.IsWhole) (m5 : Memref sig .tc .vmem S512x512 .f32) (h5 : m5.IsWhole) (m6 : Memref sig .tc .vmem S512 .f32) (h6 : m6.IsWhole) (m7 : Memref sig .tc .vmem S512 .f32) (h7 : m7.IsWhole) (m8 : Memref sig .tc .vmem S512 .f32) (h8 : m8.IsWhole) (m9 : Memref sig .tc .vmem S512x2048 .f32) (h9 : m9.IsWhole) (m10 : Memref sig .tc .vmem S2048 .f32) (h10 : m10.IsWhole) (m11 : Memref sig .tc .vmem S2048x512 .f32) (h11 : m11.IsWhole) (m12 : Memref sig .tc .vmem S512 .f32) (h12 : m12.IsWhole) (m13 : Memref sig .tc .vmem S1024x512 .f32) (h13 : m13.IsWhole) (m14 : Memref sig .tc .vmem S512 .f32) (h14 : m14.IsWhole) (m15 : Memref sig .tc .vmem S512 .f32) (h15 : m15.IsWhole) (m16 : Memref sig .tc .vmem S512 .f32) (h16 : m16.IsWhole) (m17 : Memref sig .tc .vmem S512x512 .f32) (h17 : m17.IsWhole) (m18 : Memref sig .tc .vmem S512 .f32) (h18 : m18.IsWhole) (m19 : Memref sig .tc .vmem S512x512 .f32) (h19 : m19.IsWhole) (m20 : Memref sig .tc .vmem S512 .f32) (h20 : m20.IsWhole) (m21 : Memref sig .tc .vmem S512x256 .f32) (h21 : m21.IsWhole) (m22 : Memref sig .tc .vmem S256 .f32) (h22 : m22.IsWhole) (m23 : Memref sig .tc .vmem S256x10 .f32) (h23 : m23.IsWhole) (m24 : Memref sig .tc .vmem S10 .f32) (h24 : m24.IsWhole) (mO : Memref sig .tc .vmem S64x10 .f32) (hO : mO.IsWhole) (mS : Memref sig .tc .vmem S64x512 .f32) (hS : mS.IsWhole)
    (g : Vec F S64x16x512 .bf16) (w : Vec F S16x512x512 .f32) (W : Weights F) (d : Vec F S64x10 .f32) (acc : Vec F S64x512 .f32) (K : PUnit → sProp 𝕄) :
    iprop((owns (c : Thread nD τ) mG fullShare g
        ∗ owns (c : Thread nD τ) mB fullShare w
        ∗ owns (c : Thread nD τ) m0 fullShare W.x_embed
        ∗ owns (c : Thread nD τ) m1 fullShare W.gram_b
        ∗ owns (c : Thread nD τ) m2 fullShare W.centers
        ∗ owns (c : Thread nD τ) m3 fullShare W.attn_w1
        ∗ owns (c : Thread nD τ) m4 fullShare W.attn_b1
        ∗ owns (c : Thread nD τ) m5 fullShare W.attn_w2
        ∗ owns (c : Thread nD τ) m6 fullShare W.attn_b2
        ∗ owns (c : Thread nD τ) m7 fullShare W.ln_ff_g
        ∗ owns (c : Thread nD τ) m8 fullShare W.ln_ff_b
        ∗ owns (c : Thread nD τ) m9 fullShare W.ff_w1
        ∗ owns (c : Thread nD τ) m10 fullShare W.ff_b1
        ∗ owns (c : Thread nD τ) m11 fullShare W.ff_w2
        ∗ owns (c : Thread nD τ) m12 fullShare W.ff_b2
        ∗ owns (c : Thread nD τ) m13 fullShare W.gm_w
        ∗ owns (c : Thread nD τ) m14 fullShare W.gm_b
        ∗ owns (c : Thread nD τ) m15 fullShare W.ln1_g
        ∗ owns (c : Thread nD τ) m16 fullShare W.ln1_b
        ∗ owns (c : Thread nD τ) m17 fullShare W.m1_w
        ∗ owns (c : Thread nD τ) m18 fullShare W.m1_b
        ∗ owns (c : Thread nD τ) m19 fullShare W.m2_w1
        ∗ owns (c : Thread nD τ) m20 fullShare W.m2_b1
        ∗ owns (c : Thread nD τ) m21 fullShare W.m2_w2
        ∗ owns (c : Thread nD τ) m22 fullShare W.m2_b2
        ∗ owns (c : Thread nD τ) m23 fullShare W.out_w
        ∗ owns (c : Thread nD τ) m24 fullShare W.out_b)
        ∗ owns (c : Thread nD τ) mO fullShare d
        ∗ owns (c : Thread nD τ) mS fullShare acc
        ∗ (iprop((owns (c : Thread nD τ) mG fullShare g
        ∗ owns (c : Thread nD τ) mB fullShare w
        ∗ owns (c : Thread nD τ) m0 fullShare W.x_embed
        ∗ owns (c : Thread nD τ) m1 fullShare W.gram_b
        ∗ owns (c : Thread nD τ) m2 fullShare W.centers
        ∗ owns (c : Thread nD τ) m3 fullShare W.attn_w1
        ∗ owns (c : Thread nD τ) m4 fullShare W.attn_b1
        ∗ owns (c : Thread nD τ) m5 fullShare W.attn_w2
        ∗ owns (c : Thread nD τ) m6 fullShare W.attn_b2
        ∗ owns (c : Thread nD τ) m7 fullShare W.ln_ff_g
        ∗ owns (c : Thread nD τ) m8 fullShare W.ln_ff_b
        ∗ owns (c : Thread nD τ) m9 fullShare W.ff_w1
        ∗ owns (c : Thread nD τ) m10 fullShare W.ff_b1
        ∗ owns (c : Thread nD τ) m11 fullShare W.ff_w2
        ∗ owns (c : Thread nD τ) m12 fullShare W.ff_b2
        ∗ owns (c : Thread nD τ) m13 fullShare W.gm_w
        ∗ owns (c : Thread nD τ) m14 fullShare W.gm_b
        ∗ owns (c : Thread nD τ) m15 fullShare W.ln1_g
        ∗ owns (c : Thread nD τ) m16 fullShare W.ln1_b
        ∗ owns (c : Thread nD τ) m17 fullShare W.m1_w
        ∗ owns (c : Thread nD τ) m18 fullShare W.m1_b
        ∗ owns (c : Thread nD τ) m19 fullShare W.m2_w1
        ∗ owns (c : Thread nD τ) m20 fullShare W.m2_b1
        ∗ owns (c : Thread nD τ) m21 fullShare W.m2_w2
        ∗ owns (c : Thread nD τ) m22 fullShare W.m2_b2
        ∗ owns (c : Thread nD τ) m23 fullShare W.out_w
        ∗ owns (c : Thread nD τ) m24 fullShare W.out_b)
        ∗ owns (c : Thread nD τ) mO fullShare (result i W (step g w (start i acc)) d)
        ∗ owns (c : Thread nD τ) mS fullShare (step g w (start i acc))) -∗ K ⟨⟩))
      ⊢ wp frame (wpE (defs₀ (F := F)) Variants.none c none) E
        (cc1_gram_reduce_head i mG hG mB hB m0 h0 m1 h1 m2 h2 m3 h3 m4 h4 m5 h5 m6 h6 m7 h7 m8 h8 m9 h9 m10 h10 m11 h11 m12 h12 m13 h13 m14 h14 m15 h15 m16 h16 m17 h17 m18 h18 m19 h19 m20 h20 m21 h21 m22 h22 m23 h23 m24 h24 mO hO mS hS) K := by
  simp only [cc1_gram_reduce_head_eq_skeleton]; unfold cc1_gram_reduce_head_skel
  simp only [k1_part1_eq_skeleton, k1_part2_eq_skeleton, k1_part3_eq_skeleton, k1_part4_eq_skeleton, k1_part5_eq_skeleton,
    k1_part6_eq_skeleton, k1_part7_eq_skeleton, k1_part8_eq_skeleton]
  simp only [owns_unread c hG, owns_unread c hB, owns_unread c h0, owns_unread c h1, owns_unread c h2, owns_unread c h3, owns_unread c h4, owns_unread c h5, owns_unread c h6, owns_unread c h7, owns_unread c h8, owns_unread c h9, owns_unread c h10, owns_unread c h11, owns_unread c h12, owns_unread c h13, owns_unread c h14, owns_unread c h15, owns_unread c h16, owns_unread c h17, owns_unread c h18, owns_unread c h19, owns_unread c h20, owns_unread c h21, owns_unread c h22, owns_unread c h23, owns_unread c h24, owns_unread c hO, owns_unread c hS]
  iintro ⟨⟨HG, HB, H0, H1, H2, H3, H4, H5, H6, H7, H8, H9, H10, H11, H12, H13, H14, H15, H16, H17, H18, H19, H20, H21, H22, H23, H24⟩, HO, HS, Hk⟩
  by_cases hf : first i <;> by_cases hl : last i
  · exact absurd hl (hx hf)
  all_goals
    sl_exec (disch := first | sl_exact hf | sl_exact hl)
    sl_step
    iapply Hk
    isplitl [HG HB H0 H1 H2 H3 H4 H5 H6 H7 H8 H9 H10 H11 H12 H13 H14 H15 H16 H17 H18 H19 H20 H21 H22 H23 H24]
    · iclose
    rw [← owns_unread c hO (result i W (step g w (start i acc)) d), ← owns_unread c hS (step g w (start i acc))]
    unfold owns
    isplitl [HO]
    · iexists _; isplitr
      swap; · iexact HO
      ipureintro
      (try sl_unfold_words)
      first
        | (rw [View.read_writes_full]
           simp (disch := decide) only [View.readAt_eq_ld, Memref.IsWhole.read_unread, View.ld_unit_lit', View.readCov_unit_lit', result, start,
             if_pos hl, if_neg hf]
           rfl)
        | (rw [hO.read_unread]; exact (if_neg hl).symm)
    · iexists _; isplitr
      swap; · iexact HS
      ipureintro
      (try sl_unfold_words)
      rw [View.read_writes_full]
      simp (disch := decide) only [View.readAt_eq_ld, Memref.IsWhole.read_unread, View.ld_unit_lit', View.readCov_unit_lit', start]
      first
        | (rw [if_pos hf]; rfl)
        | (rw [if_neg hf]; rfl)

end Cert.KernelIdeal.Head
-- ==== Proof.HeadRegion.lean ====
/- The second pallas_call as a pipeline: what the carried sum holds after every point, and the obligation the launch asks of
   the body. Stated over any element type, at whatever contents `V` the region is entered with. -/
module

public import proofs.«01_k».proof.Proof.HeadBody

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first point is the one numbered 0, -/
theorem first_iff (t : Fin cfg1.N) : first (grid1.coords t) ↔ t.val = 0 := by
  have ht : t.val < 32 := Nat.lt_of_lt_of_eq t.isLt N_1
  have e0 : (grid1.coords t 0).val = t.val / 1 % 32 := Pipeline.Grid.coords_val t 0 (by decide) rfl
  rw [show t.val = 0 ↔ t.val % 32 = 0 by omega]
  simp only [first, e0]; word_cmp

/-- and the last the one numbered 31. -/
theorem last_iff (t : Fin cfg1.N) : last (grid1.coords t) ↔ t.val = 31 := by
  have ht : t.val < 32 := Nat.lt_of_lt_of_eq t.isLt N_1
  have e0 : (grid1.coords t 0).val = t.val / 1 % 32 := Pipeline.Grid.coords_val t 0 (by decide) rfl
  rw [show t.val = 31 ↔ t.val % 32 = 31 by omega]
  simp only [last, k1_cond2, e0]; word_cmp

section Entry
variable (V : (c : Dev nD) → (b : Ref sig .tc) → Buf (Elt F) ((c : Thread nD τ).loc b))

/-- What window `w` holds at point `t`: its block of the array it stands on. -/
def blk (c : Dev nD) (w : Fin cfg1.W) (t : Fin cfg1.N) : (((cfg1.win w).xblock (cfg1.grid.coords t)).Idx → Elt F (cfg1.win w).elt) :=
  ((cfg1.win w).blk t).view.read (Elt F) (V c (Pipeline.arrRef spec1 w))

/-- The Gram block of point `t`. -/
abbrev blkG (c : Dev nD) (t : Fin cfg1.N) : Vec F S64x16x512 .bf16 := blk V c 0 t
/-- The weight block of point `t`. -/
abbrev blkW (c : Dev nD) (t : Fin cfg1.N) : Vec F S16x512x512 .f32 := blk V c 1 t
/-- The operands read whole, as the windows hand them over. -/
def weights (c : Dev nD) (t : Fin cfg1.N) : Weights F where
  x_embed := blk V c 2 t
  gram_b := blk V c 3 t
  centers := blk V c 4 t
  attn_w1 := blk V c 5 t
  attn_b1 := blk V c 6 t
  attn_w2 := blk V c 7 t
  attn_b2 := blk V c 8 t
  ln_ff_g := blk V c 9 t
  ln_ff_b := blk V c 10 t
  ff_w1 := blk V c 11 t
  ff_b1 := blk V c 12 t
  ff_w2 := blk V c 13 t
  ff_b2 := blk V c 14 t
  gm_w := blk V c 15 t
  gm_b := blk V c 16 t
  ln1_g := blk V c 17 t
  ln1_b := blk V c 18 t
  m1_w := blk V c 19 t
  m1_b := blk V c 20 t
  m2_w1 := blk V c 21 t
  m2_b1 := blk V c 22 t
  m2_w2 := blk V c 23 t
  m2_b2 := blk V c 24 t
  out_w := blk V c 25 t
  out_b := blk V c 26 t

/-- The carried sum after point `n`. -/
def accAt (c : Dev nD) : (n : ℕ) → n < cfg1.N → Vec F S64x512 .f32
  | 0, h => step (blkG V c ⟨0, h⟩) (blkW V c ⟨0, h⟩) k1_pay12
  | n + 1, h => step (blkG V c ⟨n + 1, h⟩) (blkW V c ⟨n + 1, h⟩) (accAt c n (Nat.lt_of_succ_lt h))

/-- The output block as the last point leaves it. -/
def out (c : Dev nD) (t : Fin cfg1.N) : Vec F S64x10 .f32 := head (weights V c t) (accAt V c t.val t.isLt)

/-- Between points: the carried sum is the one after the point before (before the first: anything), the first call's staging
    buffers and the core's random bits hold anything. -/
def carried (c : Dev nD) (n : ℕ) : sProp 𝕄 :=
  iprop(∃ acc : Vec F S64x512 .f32, ⌜∀ k, (h : k < cfg1.N) → n = k + 1 → acc = accAt V c k h⌝
    ∗ owns (c : Thread nD τ) (Memref.whole cc1_scratch0) fullShare acc
    ∗ (∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ r, prngReg c r))

/-- The pipeline's proof data: every operand's block stays, the output block is the head's value of the sum so far. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => blk V c 11 t
    | ⟨12, _⟩ => blk V c 12 t
    | ⟨13, _⟩ => blk V c 13 t
    | ⟨14, _⟩ => blk V c 14 t
    | ⟨15, _⟩ => blk V c 15 t
    | ⟨16, _⟩ => blk V c 16 t
    | ⟨17, _⟩ => blk V c 17 t
    | ⟨18, _⟩ => blk V c 18 t
    | ⟨19, _⟩ => blk V c 19 t
    | ⟨20, _⟩ => blk V c 20 t
    | ⟨21, _⟩ => blk V c 21 t
    | ⟨22, _⟩ => blk V c 22 t
    | ⟨23, _⟩ => blk V c 23 t
    | ⟨24, _⟩ => blk V c 24 t
    | ⟨25, _⟩ => blk V c 25 t
    | ⟨26, _⟩ => blk V c 26 t
    | ⟨27, _⟩ => out V c t
    | ⟨_ + 28, h⟩ => absurd h (Nat.not_lt.2 (Nat.le_add_left _ _))
  Φ t := carried V c t.val
  q _ := fullShare
  owed _ := 0

/-- The arrays are entered with what the buffers hold. -/
theorem A_eq (c : Dev nD) (w : Fin cfg1.W) : (dat V c).A w = V c (Pipeline.arrRef spec1 w) := by dsimp only [dat]
/-- The output block is the head's value of the sum so far. -/
theorem after_out (c : Dev nD) (t : Fin cfg1.N) : (dat V c).after 27 t = out V c t := by dsimp only [dat]

/-- Every window but the output is an input, live at every point and kept by the body. -/
theorem input (w : Fin cfg1.W) (hw : w ≠ 27) : (cfg1.win w).isOut = false ∧ ∀ i, cfg1.idle w i = false := by
  fin_cases w
  all_goals first | exact ⟨rfl, fun _ => rfl⟩ | exact absurd rfl hw

/-- An operand's block, cut to the array, is the block the pipeline fetched. -/
theorem after_cut (c : Dev nD) (w : Fin cfg1.W) (hw : w ≠ 27) (t : Fin cfg1.N) :
    (cfg1.win w).cut (cfg1.grid.coords t) ((dat V c).after w t) = (dat V c).blockOf w t := by
  unfold Dat.blockOf; rw [A_eq]
  fin_cases w
  all_goals first | exact absurd rfl hw | rfl

/-- An operand's staging buffer holds the point's block when the body starts. -/
theorem before_in (c : Dev nD) (w : Fin cfg1.W) (hw : w ≠ 27) (t : Fin cfg1.N) (d) :
    (dat V c).before w t d = (dat V c).after w t := by
  refine ((dat V c).before_in_eq_fetched w (input w hw).1 (input w hw).2 ?_ (after_cut V c w hw) t d).trans ?_
  · fin_cases w
    all_goals first | exact absurd rfl hw | exact fun _ _ _ => rfl
  · unfold Dat.fetched; rw [← after_cut V c w hw]
    fin_cases w
    all_goals first | exact absurd rfl hw | rfl

/-- An operand's staging buffer is handed back at its block. -/
theorem leaves_in (c : Dev nD) (w : Fin cfg1.W) (hw : w ≠ 27) (t : Fin cfg1.N) :
    (dat V c).leavesExact w t = owns (c : Thread nD τ) ((cfg1.win w).stage (cfg1.slots t w)) fullShare ((dat V c).after w t) := by
  unfold Dat.leavesExact; rw [(input w hw).2]

/-- The output's is, at the last point, at the head's value, -/
theorem leaves_last (c : Dev nD) (t : Fin cfg1.N) (h : last (grid1.coords t)) :
    (dat V c).leavesExact 27 t = owns (c : Thread nD τ) (st1_27 t) fullShare (out V c t) := by
  have live : cfg1.idle 27 (cfg1.grid.coords t) = false := by
    show (!(k1_cond2 (grid1.coords t) == 1#1)) = false
    rw [show k1_cond2 (grid1.coords t) = 1#1 from h]; rfl
  unfold Dat.leavesExact; rw [live, after_out]

/-- The output is written back at the last point alone. -/
theorem flush_out : ∀ t : Fin cfg1.N, t.val ≠ 31 → (cfg1.win 27).flush t = false := by decide +kernel

/-- and elsewhere as it was found. -/
theorem leaves_other (c : Dev nD) (t : Fin cfg1.N) (h : ¬ last (grid1.coords t)) :
    (dat V c).leavesExact 27 t = iprop(∃ d, owns (c : Thread nD τ) (st1_27 t) fullShare ((dat V c).before 27 t d)) := by
  have idle : cfg1.idle 27 (cfg1.grid.coords t) = true := by
    show (!(k1_cond2 (grid1.coords t) == 1#1)) = true
    simpa using h
  exact (dat V c).leavesExact_idle 27 t idle (flush_out t fun e => h ((last_iff t).mpr e))

/-- The point's step takes the sum after the point before to the sum after this one. -/
theorem step_start (c : Dev nD) (t : Fin cfg1.N) (acc : Vec F S64x512 .f32)
    (h : ∀ k, (hk : k < cfg1.N) → t.val = k + 1 → acc = accAt V c k hk) :
    step (blkG V c t) (blkW V c t) (start (grid1.coords t) acc) = accAt V c t.val t.isLt := by
  obtain ⟨n, hn⟩ := t
  unfold start
  cases n with
  | zero => rw [if_pos ((first_iff _).mpr rfl)]; rfl
  | succ n =>
    rw [if_neg (fun e => absurd ((first_iff _).mp e) (Nat.succ_ne_zero n)), h n (Nat.lt_of_succ_lt hn) rfl]; rfl

set_option maxHeartbeats 4000000 in
/-- The body at a point, from what the pipeline hands it to what the pipeline takes back. -/
theorem point_wp (c : Dev nD) (t : Fin cfg1.N) :
    iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d))
      ∗ (∃ d, owns (c : Thread nD τ) (st1_3 t) fullShare ((dat V c).before 3 t d))
      ∗ (∃ d, owns (c : Thread nD τ) (st1_4 t) fullShare ((dat V c).before 4 t d))
      ∗ (∃ d, owns (c : Thread nD τ) (st1_5 t) fullShare ((dat V c).before 5 t d))
      ∗ (∃ d, owns (c : Thread nD τ) (st1_6 t) fullShare ((dat V c).before 6 t d))
      ∗ (∃ d, owns (c : Thread nD τ) (st1_7 t) fullShare ((dat V c).before 7 t d))
      ∗ (∃ d, owns (c : Thread nD τ) (st1_8 t) fullShare ((dat V c).before 8 t d))
      ∗ (∃ d, owns (c : Thread nD τ) (st1_9 t) fullShare ((dat V c).before 9 t d))
      ∗ (∃ d, owns (c : Thread nD τ) (st1_10 t) fullShare ((dat V c).before 10 t d))
      ∗ (∃ d, owns (c : Thread nD τ) (st1_11 t) fullShare ((dat V c).before 11 t d))
      ∗ (∃ d, owns (c : Thread nD τ) (st1_12 t) fullShare ((dat V c).before 12 t d))
      ∗ (∃ d, owns (c : Thread nD τ) (st1_13 t) fullShare ((dat V c).before 13 t d))
      ∗ (∃ d, owns (c : Thread nD τ) (st1_14 t) fullShare ((dat V c).before 14 t d))
      ∗ (∃ d, owns (c : Thread nD τ) (st1_15 t) fullShare ((dat V c).before 15 t d))
      ∗ (∃ d, owns (c : Thread nD τ) (st1_16 t) fullShare ((dat V c).before 16 t d))
      ∗ (∃ d, owns (c : Thread nD τ) (st1_17 t) fullShare ((dat V c).before 17 t d))
      ∗ (∃ d, owns (c : Thread nD τ) (st1_18 t) fullShare ((dat V c).before 18 t d))
      ∗ (∃ d, owns (c : Thread nD τ) (st1_19 t) fullShare ((dat V c).before 19 t d))
      ∗ (∃ d, owns (c : Thread nD τ) (st1_20 t) fullShare ((dat V c).before 20 t d))
      ∗ (∃ d, owns (c : Thread nD τ) (st1_21 t) fullShare ((dat V c).before 21 t d))
      ∗ (∃ d, owns (c : Thread nD τ) (st1_22 t) fullShare ((dat V c).before 22 t d))
      ∗ (∃ d, owns (c : Thread nD τ) (st1_23 t) fullShare ((dat V c).before 23 t d))
      ∗ (∃ d, owns (c : Thread nD τ) (st1_24 t) fullShare ((dat V c).before 24 t d))
      ∗ (∃ d, owns (c : Thread nD τ) (st1_25 t) fullShare ((dat V c).before 25 t d))
      ∗ (∃ d, owns (c : Thread nD τ) (st1_26 t) fullShare ((dat V c).before 26 t d))
      ∗ (∃ d, owns (c : Thread nD τ) (st1_27 t) fullShare ((dat V c).before 27 t d)))
    ⊢ wp frame (wpE (defs₀ (F := F)) Variants.none c none) Set.univ (bodyAt1 t) (fun _ =>
      iprop((dat V c).Φ t.succ ∗ (dat V c).owesAt () t.succ
        ∗ (dat V c).leavesExact 0 t
        ∗ (dat V c).leavesExact 1 t
        ∗ (dat V c).leavesExact 2 t
        ∗ (dat V c).leavesExact 3 t
        ∗ (dat V c).leavesExact 4 t
        ∗ (dat V c).leavesExact 5 t
        ∗ (dat V c).leavesExact 6 t
        ∗ (dat V c).leavesExact 7 t
        ∗ (dat V c).leavesExact 8 t
        ∗ (dat V c).leavesExact 9 t
        ∗ (dat V c).leavesExact 10 t
        ∗ (dat V c).leavesExact 11 t
        ∗ (dat V c).leavesExact 12 t
        ∗ (dat V c).leavesExact 13 t
        ∗ (dat V c).leavesExact 14 t
        ∗ (dat V c).leavesExact 15 t
        ∗ (dat V c).leavesExact 16 t
        ∗ (dat V c).leavesExact 17 t
        ∗ (dat V c).leavesExact 18 t
        ∗ (dat V c).leavesExact 19 t
        ∗ (dat V c).leavesExact 20 t
        ∗ (dat V c).leavesExact 21 t
        ∗ (dat V c).leavesExact 22 t
        ∗ (dat V c).leavesExact 23 t
        ∗ (dat V c).leavesExact 24 t
        ∗ (dat V c).leavesExact 25 t
        ∗ (dat V c).leavesExact 26 t
        ∗ (dat V c).leavesExact 27 t)) := by
  unfold bodyAt1
  simp (disch := decide) only [before_in, leaves_in]
  rw [show (dat V c).Φ t.castSucc = carried V c t.val from rfl, show (dat V c).Φ t.succ = carried V c (t.val + 1) from rfl,
    show (dat V c).owesAt () t.succ = (dat V c).owesAt () t.castSucc from rfl]
  have hO (d) (acc : Vec F S64x512 .f32) (e : acc = accAt V c t.val t.isLt) :
      (owns (c : Thread nD τ) (st1_27 t) fullShare (result (grid1.coords t) (weights V c t) acc ((dat V c).before 27 t d)) : sProp 𝕄)
        ⊢ (dat V c).leavesExact 27 t := by
    subst e; unfold result
    by_cases hl : last (grid1.coords t)
    · rw [leaves_last V c t hl, if_pos hl]; exact .rfl
    · rw [leaves_other V c t hl, if_neg hl]; iintro H; iexists d; iexact H
  unfold carried
  iintro ⟨⟨%acc, %hacc, HS, R0, R1, R2, R3, Rp⟩, Hw, ⟨%_d0, H0⟩, ⟨%_d1, H1⟩, ⟨%_d2, H2⟩, ⟨%_d3, H3⟩, ⟨%_d4, H4⟩, ⟨%_d5, H5⟩, ⟨%_d6, H6⟩, ⟨%_d7, H7⟩, ⟨%_d8, H8⟩, ⟨%_d9, H9⟩, ⟨%_d10, H10⟩, ⟨%_d11, H11⟩, ⟨%_d12, H12⟩, ⟨%_d13, H13⟩, ⟨%_d14, H14⟩, ⟨%_d15, H15⟩, ⟨%_d16, H16⟩, ⟨%_d17, H17⟩, ⟨%_d18, H18⟩, ⟨%_d19, H19⟩, ⟨%_d20, H20⟩, ⟨%_d21, H21⟩, ⟨%_d22, H22⟩, ⟨%_d23, H23⟩, ⟨%_d24, H24⟩, ⟨%_d25, H25⟩, ⟨%_d26, H26⟩, ⟨%d, HO⟩⟩
  iapply (body_wp c Set.univ (grid1.coords t) (fun a b => absurd (((first_iff t).mp a).symm.trans ((last_iff t).mp b)) (by decide))
    _ _ _ _ _ _ _ _ _ _ _ _ _ _ _ _ _ _ _ _ _ _ _ _ _ _ _ _ _ _ _ _ _ _ _ _ _ _ _ _ _ _ _ _ _ _ _ _ _ _ _ _ _ _ _ _ _ _
    (blkG V c t) (blkW V c t) (weights V c t) ((dat V c).before 27 t d) acc _)
  isplitl [H0 H1 H2 H3 H4 H5 H6 H7 H8 H9 H10 H11 H12 H13 H14 H15 H16 H17 H18 H19 H20 H21 H22 H23 H24 H25 H26]
  · iclose
  isplitl [HO]; · iexact HO
  isplitl [HS]; · iexact HS
  rw [step_start V c t acc hacc]
  iintro ⟨⟨H0, H1, H2, H3, H4, H5, H6, H7, H8, H9, H10, H11, H12, H13, H14, H15, H16, H17, H18, H19, H20, H21, H22, H23, H24, H25, H26⟩, HO, HS⟩
  isplitl [HS R0 R1 R2 R3 Rp]
  · iexists (accAt V c t.val t.isLt)
    isplitr
    · ipureintro; intro k hk e; obtain rfl : t.val = k := Nat.succ.inj e; rfl
    iclose
  ihave HL := hO d _ rfl $$ HO
  iclose

theorem row (t : Fin cfg1.N) : defs₀ (F := F) .tc cfg1.body (cfg1.bodyArgs t (cfg1.slots t)) = bodyAt1 t := by
  unfold defs₀; rw [Defs.onTc_tc]

set_option maxHeartbeats 4000000 in
/-- The library's obligation for the body, at every point. -/
theorem obligation (c : Dev nD) : BodyObligation (dat (F := F) V c) (defs₀ (F := F)) Variants.none () Set.univ := fun t => by
  rw [bigSep_W1, bigSep_W1, row]
  exact triple_restated (point_wp V c t) rfl .rfl fun _ => .rfl

/-- What the launch hands over is what the first point starts from, -/
theorem enter (c : Dev nD) : (Pipeline.ΦA spec1 c : sProp 𝕄) ⊢ (dat V c).Φ 0 := by
  rw [show (dat V c).Φ 0 = carried V c 0 from rfl]
  unfold Pipeline.ΦA carried; rw [scopedRest1_eq]
  iintro ⟨⟨R0, R1, R2, R3, ⟨%f, HS⟩⟩, Rp⟩
  iexists f
  isplitr
  · ipureintro; intro k hk e; exact absurd e (Nat.succ_ne_zero k).symm
  rw [owns_whole]
  iclose

/-- and what the last point leaves is what it takes back. -/
theorem leave (c : Dev nD) : (dat V c).Φ (Fin.last _) ⊢ (Pipeline.ΦA spec1 c : sProp 𝕄) := by
  rw [show (dat V c).Φ (Fin.last _) = carried V c cfg1.N from rfl]
  unfold Pipeline.ΦA carried; rw [scopedRest1_eq]
  simp only [owns_whole]
  iintro ⟨%acc, -, HS, R0, R1, R2, R3, Rp⟩
  isplitr [Rp]
  · isplitl [R0]; · iexact R0
    isplitl [R1]; · iexact R1
    isplitl [R2]; · iexact R2
    isplitl [R3]; · iexact R3
    iexists acc; iexact HS
  iexact Rp

end Entry
end Cert.KernelIdeal.Head
-- ==== Proof.Run.lean ====
/- The whole program's run: the buffers' contents at each boundary of @main, the two pallas_calls as segments of it, and what
   memory and counters hold at the end. Stated over any element type. -/
module

public import proofs.«01_k».proof.Proof.GramRegion
public import proofs.«01_k».proof.Proof.HeadRegion
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal
open Cert.KernelIdeal.Gen hiding V0 V1 V2 V3 V4 segs adm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's arguments. -/
abbrev args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

/-- Core `c`'s buffers at launch, -/
abbrev W0 : Dev nD → Valuation τ sig (Elt F) := fun c b => (s₀ m ρ).mem ((c : Dev nD), b)
/-- and after the image is flattened. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
abbrev at1 : (c : Dev nD) → (b : Ref sig .tc) → Buf (Elt F) ((c : Thread nD τ).loc b) := fun c b => W1 m ρ c b

/-- After the first pallas_call: its arrays as its write-backs leave them, the rest as before. -/
def W2 (c : Dev nD) : Valuation τ sig (Elt F) :=
  Pipeline.withArrays spec0 c (W1 m ρ c) fun w => (Gram.dat (at1 m ρ) c).arrAt w cfg0.N
theorem W2_arr (c : Dev nD) (w : Fin cfg0.W) :
    W2 m ρ c (Proc.devRef .tc (Pipeline.arrRef spec0 w)) = (Gram.dat (at1 m ρ) c).arrAt w cfg0.N := by
  unfold W2; exact Pipeline.withArrays_arr spec0 launch0.win.arr_inj c _ _ w
theorem W2_off (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Only an output's array changes. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((Gram.dat (at1 m ρ) c).arrAt_in w (h w rfl) _).trans (Gram.A_eq (at1 m ρ) c w))
  · exact W2_off m ρ c r fun w e => hw ⟨w, e⟩
abbrev at2 : (c : Dev nD) → (b : Ref sig .tc) → Buf (Elt F) ((c : Thread nD τ).loc b) := fun c b => W2 m ρ c b

/-- After the large weight is split into slabs. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
abbrev at3 : (c : Dev nD) → (b : Ref sig .tc) → Buf (Elt F) ((c : Thread nD τ).loc b) := fun c b => W3 m ρ c b

/-- After the second pallas_call: its arrays as its write-backs leave them, the rest as before. -/
def W4 (c : Dev nD) : Valuation τ sig (Elt F) :=
  Pipeline.withArrays spec1 c (W3 m ρ c) fun w => (Head.dat (at3 m ρ) c).arrAt w cfg1.N
theorem W4_arr (c : Dev nD) (w : Fin cfg1.W) :
    W4 m ρ c (Proc.devRef .tc (Pipeline.arrRef spec1 w)) = (Head.dat (at3 m ρ) c).arrAt w cfg1.N := by
  unfold W4; exact Pipeline.withArrays_arr spec1 launch1.win.arr_inj c _ _ w
theorem W4_off (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Only an output's array changes. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((Head.dat (at3 m ρ) c).arrAt_in w (h w rfl) _).trans (Head.A_eq (at3 m ρ) c w))
  · exact W4_off m ρ c r fun w e => hw ⟨w, e⟩
abbrev at4 : (c : Dev nD) → (b : Ref sig .tc) → Buf (Elt F) ((c : Thread nD τ).loc b) := fun c b => W4 m ρ c b

/-- No argument is written by a host operation or is an output's array. -/
theorem args_off : ∀ a ∈ args, a ∉ hostOps0_W ∧ a ∉ hostOps1_W
    ∧ (∀ w : Fin cfg0.W, Pipeline.arrRef spec0 w = a → (cfg0.win w).isOut = false)
    ∧ (∀ w : Fin cfg1.W, Pipeline.arrRef spec1 w = a → (cfg1.win w).isOut = false) :=
  ListAll.forall_mem_of_all_decide (by decide +kernel)

/-- Every argument enters the second call as launched, -/
theorem W3_args (c : Dev nD) (a : Ref sig .tc) (ha : a ∈ args) : W3 m ρ c (Proc.devRef .tc a) = m ((c : Thread nD τ).loc a) :=
  have h := args_off a ha
  (W3_of m ρ c a h.2.1).trans ((W2_of m ρ c a h.2.2.1).trans (W1_of m ρ c a h.1))

/-- and ends as launched. -/
theorem W4_args (c : Dev nD) (a : Ref sig .tc) (ha : a ∈ args) : W4 m ρ c (Proc.devRef .tc a) = m ((c : Thread nD τ).loc a) :=
  (W4_of m ρ c a (args_off a ha).2.2.2).trans (W3_args m ρ c a ha)

/-- No pipeline reads a table ahead. -/
abbrev adm : (p : Fin 2) → (pcfgs (F := F) p).Adm := fun p => (cfgs p).toPCfg_adm

/-- Each pipeline's proof data at what it is entered with. -/
def data : (p : Fin 2) → (c : Dev nD) → Dat τ (Elt F) Unit ℕ (UR sig nD τ) ℕ (Pipeline.pin (pcfgs (F := F)) adm p) c
  | ⟨0, _⟩ => fun c => Gram.dat (at1 m ρ) c
  | ⟨1, _⟩ => fun c => Head.dat (at3 m ρ) c

/-- No core owes another anything, so no level is assigned. -/
abbrev noLevels : GSem nD τ sig → Finset Unit := fun _ => ∅
abbrev level : GSem nD τ sig → Unit → ℕ := fun _ _ => 0

/-- What rides beside the buffers: the random-number register, and nothing owed. -/
abbrev beside (c : Dev nD) : sProp 𝕄 := iprop((∃ r, prngReg c r) ∗ ∃ W, owes (c : Thread nD τ) (0 : CellTallies nD τ sig Unit) W)

/-- A stretch of host operations as a segment. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels level :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- What the last segment leaves. -/
abbrev finish (c : Dev nD) : sProp 𝕄 := iprop(StableHlo.held (c : Thread nD τ) (Pipeline.ucRefs τ sig) (W4 m ρ c) ∗ ∃ r, prngReg c r)

set_option backward.isDefEq.respectTransparency.types false in
/-- The first pallas_call as a segment. -/
def region0 : Pipeline.RegionSeg (pcfgs (F := F)) adm (data m ρ) () defs₀ Variants.none noLevels level 0 where
  win := launch0.win.to₀
  block_pos := launch0.block_pos
  stage_whole := launch0.stage_whole
  K := PEmpty
  osem k := k.elim
  ho := Pipeline.OwnSemFacts.none _
  hbody c := (Gram.obligation (at1 m ρ) c).loose
  hwaits := Pipeline.hwaits_of_owed_zero _ _ _ _ noLevels level 0 fun _ _ => rfl
  pre c := iprop(StableHlo.held (c : Thread nD τ) (Pipeline.ucRefs τ sig) (W1 m ρ c) ∗ beside c)
  post c := iprop(StableHlo.held (c : Thread nD τ) (Pipeline.ucRefs τ sig) (W2 m ρ c) ∗ beside c)
  X c := iprop(∃ r, prngReg c r)
  Y c := iprop(∃ r, prngReg c r)
  Z c := Pipeline.unscopedRest (Ix := Unit) (Name := ℕ) (U := UR sig nD τ) (Lvl := ℕ) spec0 c (at1 m ρ c)
  hentry c := by
    rw [Pipeline.ownSems0_none]
    have hsplit := Pipeline.arrays_of_unscopedBufs (p := 0) (pcfgs (F := F)) adm (data m ρ) launch0.win launch0.arr_whole c
      ((data m ρ 0 c).share_full fun _ => rfl) (at1 m ρ c) (Gram.A_eq (at1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W
      isplitr; · ipureintro; exact fun _ _ => Or.inl trivial
      iexact HO
    isplitl [Hp]; · iexact Hp
    iexact Hrest
  hin c := by
    refine BIBase.Entails.trans ?_ (show (Pipeline.ΦA spec0 c : sProp 𝕄) ⊢ (data m ρ 0 c).Φ 0 from .rfl)
    unfold Pipeline.ΦA
    iintro ⟨Hp, -, Hr⟩
    isplitl [Hr]; · iexact Hr
    iexact Hp
  hout c := by
    refine BIBase.Entails.trans (show (data m ρ 0 c).Φ (Fin.last _) ⊢ (Pipeline.ΦA spec0 c : sProp 𝕄) from .rfl) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (data m ρ) ((data m ρ 0 c).share_full fun _ => rfl)
      (at1 m ρ c) (at2 m ρ c) ((data m ρ 0 c).arrAt · cfg0.N)
      (fun w => (W2_arr m ρ c w).symm)
      (fun b hb => W2_off m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call as a segment. -/
def region1 : Pipeline.RegionSeg (pcfgs (F := F)) adm (data m ρ) () defs₀ Variants.none noLevels level 1 where
  win := launch1.win.to₀
  block_pos := launch1.block_pos
  stage_whole := launch1.stage_whole
  K := PEmpty
  osem k := k.elim
  ho := Pipeline.OwnSemFacts.none _
  hbody c := (Head.obligation (at3 m ρ) c).loose
  hwaits := Pipeline.hwaits_of_owed_zero _ _ _ _ noLevels level 1 fun _ _ => rfl
  pre c := iprop(StableHlo.held (c : Thread nD τ) (Pipeline.ucRefs τ sig) (W3 m ρ c) ∗ beside c)
  post c := iprop(finish m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (at3 m ρ c)
  hentry c := by
    rw [Pipeline.ownSems0_none]
    have hsplit := Pipeline.arrays_of_unscopedBufs (p := 1) (pcfgs (F := F)) adm (data m ρ) launch1.win launch1.arr_whole c
      ((data m ρ 1 c).share_full fun _ => rfl) (at3 m ρ c) (Head.A_eq (at3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W
      isplitr; · ipureintro; exact fun _ _ => Or.inl trivial
      iexact HO
    isplitl [Hp]; · iexact Hp
    iexact Hrest
  hin c := by
    refine BIBase.Entails.trans ?_ (Head.enter (at3 m ρ) c)
    unfold Pipeline.ΦA
    iintro ⟨Hp, -, Hr⟩
    isplitl [Hr]; · iexact Hr
    iexact Hp
  hout c := by
    refine BIBase.Entails.trans (Head.leave (at3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (data m ρ) ((data m ρ 1 c).share_full fun _ => rfl)
      (at3 m ρ c) (at4 m ρ c) ((data m ρ 1 c).arrAt · cfg1.N)
      (fun w => (W4_arr m ρ c w).symm)
      (fun b hb => W4_off m ρ c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments. -/
abbrev segs : List (Pipeline.Seg (pcfgs (F := F)) adm (data m ρ) () defs₀ Variants.none noLevels level) :=
  [ .host (stretch hostOps0 hostOps0_sub hostOps0_fresh (W0 m ρ)), .region (region0 m ρ),
    .host (stretch hostOps1 hostOps1_sub hostOps1_fresh (W2 m ρ)), .region (region1 m ρ) ]

theorem main_run (c : Dev nD) : main (F := F) c = Pipeline.Seg.run (segs m ρ) := (main_chain c).trans (by chain_rfl)

set_option backward.isDefEq.respectTransparency.types false in
/-- Every fair run ends, with every unscoped buffer at the last boundary's contents and every counter at zero. -/
theorem ends : θ_run defs (onTc (τ := τ) (main (F := F))) ⟨m, fun _ => 0, ρ⟩ (fun r =>
    (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (data m ρ) () cellOf_inj emb₁ defs₀ Variants.none noLevels level m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ beside c)) (Tₙ := finish m ρ)
    (hch := ⟨fun _ => .rfl, fun _ => .rfl, fun _ => .rfl, fun _ => .rfl, fun _ => .rfl⟩)
    (hinit := by
      refine Pipeline.initEach noLevels level fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (regions_no_unscoped g.2))⟩)

/-- An unscoped buffer is among those read back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No argument is scoped. -/
theorem args_unscoped : ∀ a ∈ args, ¬ (Proc.devRef .tc a : DevRef τ sig).isScoped := ListAll.forall_mem_of_all_decide (by decide +kernel)

/-- An argument read at the end of a run is as launched. -/
theorem arg_end {s : (ℓ : Loc nD τ sig) → Buf (Elt F) ℓ} (h : ∀ c : Dev nD, ∀ b ∈ Pipeline.ucRefs τ sig, s (((c : Thread nD τ)).1, b) = W4 m ρ c b)
    (c : Dev nD) (a : Ref sig .tc) (ha : a ∈ args) : s ((c.tc : Thread nD τ).loc a) = m ((c : Thread nD τ).loc a) :=
  (h c _ (mem_uc a (args_unscoped a ha))).trans (W4_args m ρ c a ha)

/-- The frame statement at an element type: every argument ends as launched and every counter at zero. -/
def Frame (F : FTy → Type) [FloatOps F] [Named F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ) ∧ r.2.sem = fun _ => 0)

theorem frame_holds : Frame F := fun m ρ =>
  (θ_run defs _ _).mono (fun r h => ⟨fun c => by
    have k := arg_end m ρ h.1 c
    refine ⟨?_, ?_, ?_, ?_, ?_, ?_, ?_, ?_, ?_, ?_, ?_, ?_, ?_, ?_, ?_, ?_, ?_, ?_, ?_, ?_, ?_, ?_, ?_, ?_, ?_, ?_, ?_⟩
    all_goals exact k _ (by decide), h.2⟩) (ends m ρ)

end Cert.KernelIdeal.Run
-- ==== Proof.Frames.lean ====
/- The frames of the two kernels. The rewritten one's is proved at every element type; the given one, run on words, is the
   rewritten one run on words with the named constant at its own pattern. -/
module

public import proofs.«01_k».proof.Defs
public import proofs.«01_k».proof.Proof.Gen.Kernel
public import proofs.«01_k».proof.Proof.Gen.KernelIdeal
public import proofs.«01_k».proof.Proof.Run

@[expose] public section

set_option maxRecDepth 16384

noncomputable section

namespace Cert.Proof

open Idealize.ShloMosaic Idealize.ShloMosaic.TcCoe Idealize.ShloMosaic.Tactic
open Idealize.SL.Sem

attribute [local instance] Cert.Kernel.Gen.facts Cert.KernelIdeal.Gen.facts

/-- On words a named constant is its own pattern. -/
@[reducible] def namedBits : Named Bits where
  named _ _ {φ} b := FloatOps.ofBits φ b

/-- With that reading the two frame statements are one. -/
theorem frame_eq : @Cert.KernelIdeal.Run.Frame Bits _ namedBits = Cert.quiescent_Kernel := by
  unfold Cert.quiescent_Kernel Cert.KernelIdeal.Run.Frame Cert.Pre_Kernel
  simp only [true_imp_iff]
  sl_kernel_rfl

/-- The kernel runs to its end over words, its arguments kept. -/
theorem kernel_frame : Cert.quiescent_Kernel := by
  have h := @Cert.KernelIdeal.Run.frame_holds Bits _ namedBits
  rwa [frame_eq] at h

/-- So does its idealisation over the extended reals. -/
theorem kernelIdeal_frame : Cert.quiescent_KernelIdeal := fun m g _ => Cert.KernelIdeal.Run.frame_holds m g

end Cert.Proof
-- ==== Proof.ReferenceFrame.lean ====
module

public import proofs.«01_k».proof.Defs
public import proofs.«01_k».proof.Proof.Gen.ReferenceIdeal
public import Idealize.ShloMosaic.Lib.Claim
public import Idealize.ShloMosaic.Lib.Quiescent

/-!
# The reference's frame, and the one named constant

The reference is a straight line of host operations, none of which writes an argument, and it
declares no semaphore. The kernel's one named literal is the word of 1/784.
-/

@[expose] public section

set_option maxRecDepth 16384

noncomputable section

namespace Cert.Proof

attribute [local instance] Cert.ReferenceIdeal.Gen.facts

open Idealize.ShloMosaic Idealize.ShloMosaic.TcCoe
open Idealize.SL.Sem

set_option maxHeartbeats 4000000 in
/-- The reference terminates, leaves its arguments as launched and has no counter to leave raised. -/
theorem reference_frame : Cert.quiescent_ReferenceIdeal := by
  intro m g _
  hlo_run
  · simp
  · exact Idealize.ShloMosaic.sem_eq_zero_of_no_sems (sig := Cert.ReferenceIdeal.sig) (by decide) _

/-- The literal named `inv_hw` is the float nearest to 1/784, which is what it stands for over the extended reals. -/
theorem scale_named : Cert.preserves_Kernel_KernelIdeal :=
  IdealRules.named_const.statement Cert.KernelIdeal.κ "inv_hw" .f32 0x3AA72F05#32 ((784⁻¹ : ℝ) : EReal) rfl

end Cert.Proof

end
-- ==== Proof.ReferenceOps.lean ====
/- The reference's host operations in order, in ten stretches, each ending at a value with a name of its own;
   and what every stretch leaves alone. -/
module

public import proofs.«01_k».proof.Proof.Gen.ReferenceIdeal
public import Idealize.ShloMosaic.Lib.StableHlo.Run
public import Idealize.ShloMosaic.Lib.StableHlo.RunHlo
public import Idealize.ShloMosaic.Lib.Pipeline.Frame

@[expose] public section

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Two feature blocks side by side. -/
def beside (a b : Vec F S64x512 .f32) : Vec F S64x1024 .f32 :=
  concatenate S64x1024 1 [⟨S64x512, a⟩, ⟨S64x512, b⟩] concatenates_S64x512_S64x512_S64x1024_d1

/-- The operations that end at the gated features. -/
def gateOps : List (HloOp τ sig (Elt F)) :=
  [ binary main_arg0 main_arg2 main_v0 ((fun l r => Host.dotGeneral dot_S64x512_S512x512_S64x512_1_0_0_1_n_n none l r) : (⟨S64x512, .f32⟩ : BufTy).Contents (Elt F) → (⟨S512x512, .f32⟩ : BufTy).Contents (Elt F) → (⟨S64x512, .f32⟩ : BufTy).Contents (Elt F)),
    unary main_arg3 main_v1 (broadcastInDim S1x512 ![1] bcast_S512_S1x512_1 : (⟨S512, .f32⟩ : BufTy).Contents (Elt F) → (⟨S1x512, .f32⟩ : BufTy).Contents (Elt F)),
    unary main_v1 main_v2 (broadcastInDim S64x512 ![0, 1] bcast_S1x512_S64x512_0_1 : (⟨S1x512, .f32⟩ : BufTy).Contents (Elt F) → (⟨S64x512, .f32⟩ : BufTy).Contents (Elt F)),
    binary main_v0 main_v2 main_v3 (addf : (⟨S64x512, .f32⟩ : BufTy).Contents (Elt F) → (⟨S64x512, .f32⟩ : BufTy).Contents (Elt F) → (⟨S64x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S64x512, .f32⟩) main_call0_v0) (broadcastInDim S64x512 ![] bcast_S_S64x512),
    TRef.binary (TRef.of (T := ⟨S64x512, .f32⟩) main_v3) (TRef.of (T := ⟨S64x512, .f32⟩) main_call0_v0) (TRef.of (T := ⟨S64x512, .f32⟩) main_v4) maximumf,
    binary main_v4 main_arg4 main_v5 ((fun l r => Host.dotGeneral dot_S64x512_S512x512_S64x512_1_0_0_1_n_n none l r) : (⟨S64x512, .f32⟩ : BufTy).Contents (Elt F) → (⟨S512x512, .f32⟩ : BufTy).Contents (Elt F) → (⟨S64x512, .f32⟩ : BufTy).Contents (Elt F)),
    unary main_arg5 main_v6 (broadcastInDim S1x512 ![1] bcast_S512_S1x512_1 : (⟨S512, .f32⟩ : BufTy).Contents (Elt F) → (⟨S1x512, .f32⟩ : BufTy).Contents (Elt F)),
    unary main_v6 main_v7 (broadcastInDim S64x512 ![0, 1] bcast_S1x512_S64x512_0_1 : (⟨S1x512, .f32⟩ : BufTy).Contents (Elt F) → (⟨S64x512, .f32⟩ : BufTy).Contents (Elt F)),
    binary main_v5 main_v7 main_v8 (addf : (⟨S64x512, .f32⟩ : BufTy).Contents (Elt F) → (⟨S64x512, .f32⟩ : BufTy).Contents (Elt F) → (⟨S64x512, .f32⟩ : BufTy).Contents (Elt F)),
    unary main_v8 main_v9 (Host.negf : (⟨S64x512, .f32⟩ : BufTy).Contents (Elt F) → (⟨S64x512, .f32⟩ : BufTy).Contents (Elt F)),
    unary main_v9 main_v10 (Host.exp : (⟨S64x512, .f32⟩ : BufTy).Contents (Elt F) → (⟨S64x512, .f32⟩ : BufTy).Contents (Elt F)),
    nullary main_cst (constant S_ .f32 0x3F800000#32),
    unary main_cst main_v11 (broadcastInDim S64x512 ![] bcast_S_S64x512 : (⟨S_, .f32⟩ : BufTy).Contents (Elt F) → (⟨S64x512, .f32⟩ : BufTy).Contents (Elt F)),
    binary main_v11 main_v10 main_v12 (addf : (⟨S64x512, .f32⟩ : BufTy).Contents (Elt F) → (⟨S64x512, .f32⟩ : BufTy).Contents (Elt F) → (⟨S64x512, .f32⟩ : BufTy).Contents (Elt F)),
    nullary main_cst_0 (constant S_ .f32 0x3F800000#32),
    unary main_cst_0 main_v13 (broadcastInDim S64x512 ![] bcast_S_S64x512 : (⟨S_, .f32⟩ : BufTy).Contents (Elt F) → (⟨S64x512, .f32⟩ : BufTy).Contents (Elt F)),
    binary main_v13 main_v12 main_v14 (Host.divf : (⟨S64x512, .f32⟩ : BufTy).Contents (Elt F) → (⟨S64x512, .f32⟩ : BufTy).Contents (Elt F) → (⟨S64x512, .f32⟩ : BufTy).Contents (Elt F)),
    binary main_arg0 main_v14 main_v15 (mulf : (⟨S64x512, .f32⟩ : BufTy).Contents (Elt F) → (⟨S64x512, .f32⟩ : BufTy).Contents (Elt F) → (⟨S64x512, .f32⟩ : BufTy).Contents (Elt F)) ]

/-- The operations that end at the gated features normalised. -/
def gateNormOps : List (HloOp τ sig (Elt F)) :=
  [ nullary main_cst_1 (constant S_ .f32 0x00000000#32),
    binary main_v15 main_cst_1 main_v16 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    unary main_v16 main_v17 (broadcastInDim S64x1 ![0] bcast_S64_S64x1_0 : (⟨S64, .f32⟩ : BufTy).Contents (Elt F) → (⟨S64x1, .f32⟩ : BufTy).Contents (Elt F)),
    nullary main_cst_2 (constant S_ .f32 0x44000000#32),
    unary main_cst_2 main_v18 (broadcastInDim S64x1 ![] bcast_S_S64x1 : (⟨S_, .f32⟩ : BufTy).Contents (Elt F) → (⟨S64x1, .f32⟩ : BufTy).Contents (Elt F)),
    binary main_v17 main_v18 main_v19 (Host.divf : (⟨S64x1, .f32⟩ : BufTy).Contents (Elt F) → (⟨S64x1, .f32⟩ : BufTy).Contents (Elt F) → (⟨S64x1, .f32⟩ : BufTy).Contents (Elt F)),
    nullary main_c (constantI S_ 32 0#32),
    TRef.nullary (TRef.of (T := ⟨S_, .f32⟩) main_call1_cst) (constant S_ .f32 0x00000000#32),
    TRef.binary (TRef.of (T := ⟨S64x512, .f32⟩) main_v15) (TRef.of (T := ⟨S_, .f32⟩) main_call1_cst) (TRef.of (T := ⟨S64, .f32⟩) main_call1_v0) (fun x v => Host.reduceAdd x v reducesTo_S64x512_S64_d1 h_S_),
    TRef.unary (TRef.of (T := ⟨S64, .f32⟩) main_call1_v0) (TRef.of (T := ⟨S64x1, .f32⟩) main_call1_v1) (broadcastInDim S64x1 ![0] bcast_S64_S64x1_0),
    TRef.nullary (TRef.of (T := ⟨S_, .f32⟩) main_call1_cst_0) (constant S_ .f32 0x44000000#32),
    TRef.unary (TRef.of (T := ⟨S_, .f32⟩) main_call1_cst_0) (TRef.of (T := ⟨S64x1, .f32⟩) main_call1_v2) (broadcastInDim S64x1 ![] bcast_S_S64x1),
    TRef.binary (TRef.of (T := ⟨S64x1, .f32⟩) main_call1_v1) (TRef.of (T := ⟨S64x1, .f32⟩) main_call1_v2) (TRef.of (T := ⟨S64x1, .f32⟩) main_call1_v3) Host.divf,
    TRef.unary (TRef.of (T := ⟨S64x1, .f32⟩) main_call1_v3) (TRef.of (T := ⟨S64x512, .f32⟩) main_call1_v4) (broadcastInDim S64x512 ![0, 1] bcast_S64x1_S64x512_0_1),
    TRef.binary (TRef.of (T := ⟨S64x512, .f32⟩) main_v15) (TRef.of (T := ⟨S64x512, .f32⟩) main_call1_v4) (TRef.of (T := ⟨S64x512, .f32⟩) main_call1_v5) subf,
    TRef.binary (TRef.of (T := ⟨S64x512, .f32⟩) main_call1_v5) (TRef.of (T := ⟨S64x512, .f32⟩) main_call1_v5) (TRef.of (T := ⟨S64x512, .f32⟩) main_call1_v6) mulf,
    TRef.unary (TRef.of (T := ⟨S_, .i32⟩) main_c) (TRef.of (T := ⟨S_, .f32⟩) main_call1_v7) (sitofp .f32),
    TRef.nullary (TRef.of (T := ⟨S_, .f32⟩) main_call1_cst_1) (constant S_ .f32 0x44000000#32),
    TRef.binary (TRef.of (T := ⟨S_, .f32⟩) main_call1_cst_1) (TRef.of (T := ⟨S_, .f32⟩) main_call1_v7) (TRef.of (T := ⟨S_, .f32⟩) main_call1_v8) subf,
    TRef.nullary (TRef.of (T := ⟨S_, .f32⟩) main_call1_cst_2) (constant S_ .f32 0x00000000#32),
    TRef.binary (TRef.of (T := ⟨S64x512, .f32⟩) main_call1_v6) (TRef.of (T := ⟨S_, .f32⟩) main_call1_cst_2) (TRef.of (T := ⟨S64, .f32⟩) main_call1_v9) (fun x v => Host.reduceAdd x v reducesTo_S64x512_S64_d1 h_S_),
    TRef.unary (TRef.of (T := ⟨S64, .f32⟩) main_call1_v9) (TRef.of (T := ⟨S64x1, .f32⟩) main_call1_v10) (broadcastInDim S64x1 ![0] bcast_S64_S64x1_0),
    TRef.unary (TRef.of (T := ⟨S_, .f32⟩) main_call1_v8) (TRef.of (T := ⟨S64x1, .f32⟩) main_call1_v11) (broadcastInDim S64x1 ![] bcast_S_S64x1),
    TRef.binary (TRef.of (T := ⟨S64x1, .f32⟩) main_call1_v10) (TRef.of (T := ⟨S64x1, .f32⟩) main_call1_v11) (TRef.of (T := ⟨S64x1, .f32⟩) main_call1_v12) Host.divf,
    TRef.nullary (TRef.of (T := ⟨S_, .f32⟩) main_call1_cst_3) (constant S_ .f32 0x00000000#32),
    TRef.binary (TRef.of (T := ⟨S_, .f32⟩) main_call1_v8) (TRef.of (T := ⟨S_, .f32⟩) main_call1_cst_3) (TRef.of (T := ⟨S_, .i1⟩) main_call1_v13) (cmpf .ogt),
    TRef.nullary (TRef.of (T := ⟨S_, .f32⟩) main_call1_cst_4) (constant S_ .f32 0x7FC00000#32),
    TRef.unary (TRef.of (T := ⟨S_, .f32⟩) main_call1_cst_4) (TRef.of (T := ⟨S_, .f32⟩) main_call1_call0_v0) id,
    TRef.unary (TRef.of (T := ⟨S_, .f32⟩) main_call1_call0_v0) (TRef.of (T := ⟨S64x1, .f32⟩) main_call1_call0_v1) (broadcastInDim S64x1 ![] bcast_S_S64x1),
    TRef.ternary (TRef.of (T := ⟨S_, .i1⟩) main_call1_v13) (TRef.of (T := ⟨S64x1, .f32⟩) main_call1_v12) (TRef.of (T := ⟨S64x1, .f32⟩) main_call1_call0_v1) (TRef.of (T := ⟨S64x1, .f32⟩) main_v20) (fun p a b => select (broadcastInDim S64x1 ![] bcast_S_S64x1 p) a b),
    unary main_v19 main_v21 (broadcastInDim S64x512 ![0, 1] bcast_S64x1_S64x512_0_1 : (⟨S64x1, .f32⟩ : BufTy).Contents (Elt F) → (⟨S64x512, .f32⟩ : BufTy).Contents (Elt F)),
    binary main_v15 main_v21 main_v22 (subf : (⟨S64x512, .f32⟩ : BufTy).Contents (Elt F) → (⟨S64x512, .f32⟩ : BufTy).Contents (Elt F) → (⟨S64x512, .f32⟩ : BufTy).Contents (Elt F)),
    nullary main_cst_3 (constant S_ .f32 0x3727C5AC#32),
    unary main_cst_3 main_v23 (broadcastInDim S64x1 ![] bcast_S_S64x1 : (⟨S_, .f32⟩ : BufTy).Contents (Elt F) → (⟨S64x1, .f32⟩ : BufTy).Contents (Elt F)),
    binary main_v20 main_v23 main_v24 (addf : (⟨S64x1, .f32⟩ : BufTy).Contents (Elt F) → (⟨S64x1, .f32⟩ : BufTy).Contents (Elt F) → (⟨S64x1, .f32⟩ : BufTy).Contents (Elt F)),
    unary main_v24 main_v25 (Host.sqrt : (⟨S64x1, .f32⟩ : BufTy).Contents (Elt F) → (⟨S64x1, .f32⟩ : BufTy).Contents (Elt F)),
    unary main_v25 main_v26 (broadcastInDim S64x512 ![0, 1] bcast_S64x1_S64x512_0_1 : (⟨S64x1, .f32⟩ : BufTy).Contents (Elt F) → (⟨S64x512, .f32⟩ : BufTy).Contents (Elt F)),
    binary main_v22 main_v26 main_v27 (Host.divf : (⟨S64x512, .f32⟩ : BufTy).Contents (Elt F) → (⟨S64x512, .f32⟩ : BufTy).Contents (Elt F) → (⟨S64x512, .f32⟩ : BufTy).Contents (Elt F)) ]

/-- The operations that end at the residual branch. -/
def residualOps : List (HloOp τ sig (Elt F)) :=
  [ unary main_arg6 main_v28 (broadcastInDim S1x512 ![1] bcast_S512_S1x512_1 : (⟨S512, .f32⟩ : BufTy).Contents (Elt F) → (⟨S1x512, .f32⟩ : BufTy).Contents (Elt F)),
    unary main_v28 main_v29 (broadcastInDim S64x512 ![0, 1] bcast_S1x512_S64x512_0_1 : (⟨S1x512, .f32⟩ : BufTy).Contents (Elt F) → (⟨S64x512, .f32⟩ : BufTy).Contents (Elt F)),
    binary main_v27 main_v29 main_v30 (mulf : (⟨S64x512, .f32⟩ : BufTy).Contents (Elt F) → (⟨S64x512, .f32⟩ : BufTy).Contents (Elt F) → (⟨S64x512, .f32⟩ : BufTy).Contents (Elt F)),
    unary main_arg7 main_v31 (broadcastInDim S1x512 ![1] bcast_S512_S1x512_1 : (⟨S512, .f32⟩ : BufTy).Contents (Elt F) → (⟨S1x512, .f32⟩ : BufTy).Contents (Elt F)),
    unary main_v31 main_v32 (broadcastInDim S64x512 ![0, 1] bcast_S1x512_S64x512_0_1 : (⟨S1x512, .f32⟩ : BufTy).Contents (Elt F) → (⟨S64x512, .f32⟩ : BufTy).Contents (Elt F)),
    binary main_v30 main_v32 main_v33 (addf : (⟨S64x512, .f32⟩ : BufTy).Contents (Elt F) → (⟨S64x512, .f32⟩ : BufTy).Contents (Elt F) → (⟨S64x512, .f32⟩ : BufTy).Contents (Elt F)),
    binary main_v33 main_arg8 main_v34 ((fun l r => Host.dotGeneral dot_S64x512_S512x2048_S64x2048_1_0_0_1_n_n none l r) : (⟨S64x512, .f32⟩ : BufTy).Contents (Elt F) → (⟨S512x2048, .f32⟩ : BufTy).Contents (Elt F) → (⟨S64x2048, .f32⟩ : BufTy).Contents (Elt F)),
    unary main_arg9 main_v35 (broadcastInDim S1x2048 ![1] bcast_S2048_S1x2048_1 : (⟨S2048, .f32⟩ : BufTy).Contents (Elt F) → (⟨S1x2048, .f32⟩ : BufTy).Contents (Elt F)),
    unary main_v35 main_v36 (broadcastInDim S64x2048 ![0, 1] bcast_S1x2048_S64x2048_0_1 : (⟨S1x2048, .f32⟩ : BufTy).Contents (Elt F) → (⟨S64x2048, .f32⟩ : BufTy).Contents (Elt F)),
    binary main_v34 main_v36 main_v37 (addf : (⟨S64x2048, .f32⟩ : BufTy).Contents (Elt F) → (⟨S64x2048, .f32⟩ : BufTy).Contents (Elt F) → (⟨S64x2048, .f32⟩ : BufTy).Contents (Elt F)),
    nullary main_cst_4 (constant S_ .f32 0x3F000000#32),
    unary main_cst_4 main_v38 (broadcastInDim S64x2048 ![] bcast_S_S64x2048 : (⟨S_, .f32⟩ : BufTy).Contents (Elt F) → (⟨S64x2048, .f32⟩ : BufTy).Contents (Elt F)),
    binary main_v38 main_v37 main_v39 (mulf : (⟨S64x2048, .f32⟩ : BufTy).Contents (Elt F) → (⟨S64x2048, .f32⟩ : BufTy).Contents (Elt F) → (⟨S64x2048, .f32⟩ : BufTy).Contents (Elt F)),
    unary main_v37 main_v40 (Host.negf : (⟨S64x2048, .f32⟩ : BufTy).Contents (Elt F) → (⟨S64x2048, .f32⟩ : BufTy).Contents (Elt F)),
    nullary main_cst_5 (constant S_ .f32 0x3F3504F3#32),
    unary main_cst_5 main_v41 (broadcastInDim S64x2048 ![] bcast_S_S64x2048 : (⟨S_, .f32⟩ : BufTy).Contents (Elt F) → (⟨S64x2048, .f32⟩ : BufTy).Contents (Elt F)),
    binary main_v40 main_v41 main_v42 (mulf : (⟨S64x2048, .f32⟩ : BufTy).Contents (Elt F) → (⟨S64x2048, .f32⟩ : BufTy).Contents (Elt F) → (⟨S64x2048, .f32⟩ : BufTy).Contents (Elt F)),
    unary main_v42 main_v43 (Host.erfc : (⟨S64x2048, .f32⟩ : BufTy).Contents (Elt F) → (⟨S64x2048, .f32⟩ : BufTy).Contents (Elt F)),
    binary main_v39 main_v43 main_v44 (mulf : (⟨S64x2048, .f32⟩ : BufTy).Contents (Elt F) → (⟨S64x2048, .f32⟩ : BufTy).Contents (Elt F) → (⟨S64x2048, .f32⟩ : BufTy).Contents (Elt F)),
    binary main_v44 main_arg10 main_v45 ((fun l r => Host.dotGeneral dot_S64x2048_S2048x512_S64x512_1_0_0_1_n_n none l r) : (⟨S64x2048, .f32⟩ : BufTy).Contents (Elt F) → (⟨S2048x512, .f32⟩ : BufTy).Contents (Elt F) → (⟨S64x512, .f32⟩ : BufTy).Contents (Elt F)),
    unary main_arg11 main_v46 (broadcastInDim S1x512 ![1] bcast_S512_S1x512_1 : (⟨S512, .f32⟩ : BufTy).Contents (Elt F) → (⟨S1x512, .f32⟩ : BufTy).Contents (Elt F)),
    unary main_v46 main_v47 (broadcastInDim S64x512 ![0, 1] bcast_S1x512_S64x512_0_1 : (⟨S1x512, .f32⟩ : BufTy).Contents (Elt F) → (⟨S64x512, .f32⟩ : BufTy).Contents (Elt F)),
    binary main_v45 main_v47 main_v48 (addf : (⟨S64x512, .f32⟩ : BufTy).Contents (Elt F) → (⟨S64x512, .f32⟩ : BufTy).Contents (Elt F) → (⟨S64x512, .f32⟩ : BufTy).Contents (Elt F)),
    binary main_v15 main_v48 main_v49 (addf : (⟨S64x512, .f32⟩ : BufTy).Contents (Elt F) → (⟨S64x512, .f32⟩ : BufTy).Contents (Elt F) → (⟨S64x512, .f32⟩ : BufTy).Contents (Elt F)) ]

/-- The operations that end at the Gram features. -/
def gramOps : List (HloOp τ sig (Elt F)) :=
  [ reshape main_arg1 main_v50 (rfl : (.f32 : EltTy) = .f32) shapeCasts_S64x512x28x28_S64x512x784,
    binary main_v50 main_v50 main_v51 ((fun l r => Host.dotGeneral dot_S64x512x784_S64x512x784_S64x512x512_2_2_1_1_0_0 none l r) : (⟨S64x512x784, .f32⟩ : BufTy).Contents (Elt F) → (⟨S64x512x784, .f32⟩ : BufTy).Contents (Elt F) → (⟨S64x512x512, .f32⟩ : BufTy).Contents (Elt F)),
    nullary main_cst_6 (constant S_ .f32 0x44440000#32),
    unary main_cst_6 main_v52 (broadcastInDim S64x512x512 ![] bcast_S_S64x512x512 : (⟨S_, .f32⟩ : BufTy).Contents (Elt F) → (⟨S64x512x512, .f32⟩ : BufTy).Contents (Elt F)),
    binary main_v51 main_v52 main_v53 (Host.divf : (⟨S64x512x512, .f32⟩ : BufTy).Contents (Elt F) → (⟨S64x512x512, .f32⟩ : BufTy).Contents (Elt F) → (⟨S64x512x512, .f32⟩ : BufTy).Contents (Elt F)),
    reshape main_v53 main_v54 (rfl : (.f32 : EltTy) = .f32) shapeCasts_S64x512x512_S64x262144,
    binary main_v54 main_arg12 main_v55 ((fun l r => Host.dotGeneral dot_S64x262144_S262144x512_S64x512_1_0_0_1_n_n none l r) : (⟨S64x262144, .f32⟩ : BufTy).Contents (Elt F) → (⟨S262144x512, .f32⟩ : BufTy).Contents (Elt F) → (⟨S64x512, .f32⟩ : BufTy).Contents (Elt F)),
    unary main_arg13 main_v56 (broadcastInDim S1x512 ![1] bcast_S512_S1x512_1 : (⟨S512, .f32⟩ : BufTy).Contents (Elt F) → (⟨S1x512, .f32⟩ : BufTy).Contents (Elt F)),
    unary main_v56 main_v57 (broadcastInDim S64x512 ![0, 1] bcast_S1x512_S64x512_0_1 : (⟨S1x512, .f32⟩ : BufTy).Contents (Elt F) → (⟨S64x512, .f32⟩ : BufTy).Contents (Elt F)),
    binary main_v55 main_v57 main_v58 (addf : (⟨S64x512, .f32⟩ : BufTy).Contents (Elt F) → (⟨S64x512, .f32⟩ : BufTy).Contents (Elt F) → (⟨S64x512, .f32⟩ : BufTy).Contents (Elt F)) ]

/-- The operations that end at the squared distances. -/
def distanceOps : List (HloOp τ sig (Elt F)) :=
  [ binary main_v58 main_v58 main_v59 (mulf : (⟨S64x512, .f32⟩ : BufTy).Contents (Elt F) → (⟨S64x512, .f32⟩ : BufTy).Contents (Elt F) → (⟨S64x512, .f32⟩ : BufTy).Contents (Elt F)),
    nullary main_cst_7 (constant S_ .f32 0x00000000#32),
    binary main_v59 main_cst_7 main_v60 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    unary main_v60 main_v61 (broadcastInDim S64x1 ![0] bcast_S64_S64x1_0 : (⟨S64, .f32⟩ : BufTy).Contents (Elt F) → (⟨S64x1, .f32⟩ : BufTy).Contents (Elt F)),
    nullary main_cst_8 (constant S_ .f32 0x40000000#32),
    unary main_cst_8 main_v62 (broadcastInDim S64x512 ![] bcast_S_S64x512 : (⟨S_, .f32⟩ : BufTy).Contents (Elt F) → (⟨S64x512, .f32⟩ : BufTy).Contents (Elt F)),
    binary main_v62 main_v58 main_v63 (mulf : (⟨S64x512, .f32⟩ : BufTy).Contents (Elt F) → (⟨S64x512, .f32⟩ : BufTy).Contents (Elt F) → (⟨S64x512, .f32⟩ : BufTy).Contents (Elt F)),
    unary main_arg14 main_v64 ((transpose S512x20 [1, 0] · transposes_S20x512_S512x20_1_0) : (⟨S20x512, .f32⟩ : BufTy).Contents (Elt F) → (⟨S512x20, .f32⟩ : BufTy).Contents (Elt F)),
    binary main_v63 main_v64 main_v65 ((fun l r => Host.dotGeneral dot_S64x512_S512x20_S64x20_1_0_0_1_n_n none l r) : (⟨S64x512, .f32⟩ : BufTy).Contents (Elt F) → (⟨S512x20, .f32⟩ : BufTy).Contents (Elt F) → (⟨S64x20, .f32⟩ : BufTy).Contents (Elt F)),
    unary main_v61 main_v66 (broadcastInDim S64x20 ![0, 1] bcast_S64x1_S64x20_0_1 : (⟨S64x1, .f32⟩ : BufTy).Contents (Elt F) → (⟨S64x20, .f32⟩ : BufTy).Contents (Elt F)),
    binary main_v66 main_v65 main_v67 (subf : (⟨S64x20, .f32⟩ : BufTy).Contents (Elt F) → (⟨S64x20, .f32⟩ : BufTy).Contents (Elt F) → (⟨S64x20, .f32⟩ : BufTy).Contents (Elt F)),
    binary main_arg14 main_arg14 main_v68 (mulf : (⟨S20x512, .f32⟩ : BufTy).Contents (Elt F) → (⟨S20x512, .f32⟩ : BufTy).Contents (Elt F) → (⟨S20x512, .f32⟩ : BufTy).Contents (Elt F)),
    nullary main_cst_9 (constant S_ .f32 0x00000000#32),
    binary main_v68 main_cst_9 main_v69 ((fun x v => Host.reduceAdd x v reducesTo_S20x512_S20_d1 h_S_) : (⟨S20x512, .f32⟩ : BufTy).Contents (Elt F) → (⟨S_, .f32⟩ : BufTy).Contents (Elt F) → (⟨S20, .f32⟩ : BufTy).Contents (Elt F)),
    unary main_v69 main_v70 (broadcastInDim S1x20 ![1] bcast_S20_S1x20_1 : (⟨S20, .f32⟩ : BufTy).Contents (Elt F) → (⟨S1x20, .f32⟩ : BufTy).Contents (Elt F)),
    unary main_v70 main_v71 (broadcastInDim S64x20 ![0, 1] bcast_S1x20_S64x20_0_1 : (⟨S1x20, .f32⟩ : BufTy).Contents (Elt F) → (⟨S64x20, .f32⟩ : BufTy).Contents (Elt F)),
    binary main_v67 main_v71 main_v72 (addf : (⟨S64x20, .f32⟩ : BufTy).Contents (Elt F) → (⟨S64x20, .f32⟩ : BufTy).Contents (Elt F) → (⟨S64x20, .f32⟩ : BufTy).Contents (Elt F)) ]

/-- The operations that end at the nearest centre. -/
def nearestOps : List (HloOp τ sig (Elt F)) :=
  [ TRef.nullary (TRef.of (T := ⟨S64x20, .i32⟩) main_call2_v0) (iotaInDim S64x20 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S64x20, .f32⟩) main_v72) (TRef.of (T := ⟨S64x20, .i32⟩) main_call2_v0) (TRef.of (T := ⟨S_, .f32⟩) main_call2_cst) (TRef.of (T := ⟨S_, .i32⟩) main_call2_c) (TRef.of (T := ⟨S64, .f32⟩) main_call2_v1_0) (fun x y u v j => (Host.argReduce reducer_argmin_f32_i32 x y u v reducesTo_S64x20_S64_d1 h_S_ j).1),
    TRef.quaternary (TRef.of (T := ⟨S64x20, .f32⟩) main_v72) (TRef.of (T := ⟨S64x20, .i32⟩) main_call2_v0) (TRef.of (T := ⟨S_, .f32⟩) main_call2_cst) (TRef.of (T := ⟨S_, .i32⟩) main_call2_c) (TRef.of (T := ⟨S64, .i32⟩) main_v73) (fun x y u v j => (Host.argReduce reducer_argmin_f32_i32 x y u v reducesTo_S64x20_S64_d1 h_S_ j).2),
    nullary main_c_10 (constantI S_ 32 0#32),
    unary main_c_10 main_v74 (broadcastInDim S64 ![] bcast_S_S64 : (⟨S_, .i32⟩ : BufTy).Contents (Elt F) → (⟨S64, .i32⟩ : BufTy).Contents (Elt F)),
    binary main_v73 main_v74 main_v75 (cmpi .slt : (⟨S64, .i32⟩ : BufTy).Contents (Elt F) → (⟨S64, .i32⟩ : BufTy).Contents (Elt F) → (⟨S64, .i1⟩ : BufTy).Contents (Elt F)),
    nullary main_c_11 (constantI S_ 32 20#32),
    unary main_c_11 main_v76 (broadcastInDim S64 ![] bcast_S_S64 : (⟨S_, .i32⟩ : BufTy).Contents (Elt F) → (⟨S64, .i32⟩ : BufTy).Contents (Elt F)),
    binary main_v73 main_v76 main_v77 (addi : (⟨S64, .i32⟩ : BufTy).Contents (Elt F) → (⟨S64, .i32⟩ : BufTy).Contents (Elt F) → (⟨S64, .i32⟩ : BufTy).Contents (Elt F)),
    ternary main_v75 main_v77 main_v73 main_v78 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v78 main_v79 (broadcastInDim S64x1 ![0] bcast_S64_S64x1_0 : (⟨S64, .i32⟩ : BufTy).Contents (Elt F) → (⟨S64x1, .i32⟩ : BufTy).Contents (Elt F)),
    binary main_arg14 main_v79 main_v80 ((fun x i => Host.gather gather_S20x512_S64x1_S64x512_1_0_n_n_0_1_1512 x i) : (⟨S20x512, .f32⟩ : BufTy).Contents (Elt F) → (⟨S64x1, .i32⟩ : BufTy).Contents (Elt F) → (⟨S64x512, .f32⟩ : BufTy).Contents (Elt F)) ]

/-- The operations that end at the fused features. -/
def fuseOps : List (HloOp τ sig (Elt F)) :=
  [ binary main_v49 main_v80 main_v81 (beside (F := F)),
    binary main_v81 main_arg15 main_v82 ((fun l r => Host.dotGeneral dot_S64x1024_S1024x512_S64x512_1_0_0_1_n_n none l r) : (⟨S64x1024, .f32⟩ : BufTy).Contents (Elt F) → (⟨S1024x512, .f32⟩ : BufTy).Contents (Elt F) → (⟨S64x512, .f32⟩ : BufTy).Contents (Elt F)),
    unary main_arg16 main_v83 (broadcastInDim S1x512 ![1] bcast_S512_S1x512_1 : (⟨S512, .f32⟩ : BufTy).Contents (Elt F) → (⟨S1x512, .f32⟩ : BufTy).Contents (Elt F)),
    unary main_v83 main_v84 (broadcastInDim S64x512 ![0, 1] bcast_S1x512_S64x512_0_1 : (⟨S1x512, .f32⟩ : BufTy).Contents (Elt F) → (⟨S64x512, .f32⟩ : BufTy).Contents (Elt F)),
    binary main_v82 main_v84 main_v85 (addf : (⟨S64x512, .f32⟩ : BufTy).Contents (Elt F) → (⟨S64x512, .f32⟩ : BufTy).Contents (Elt F) → (⟨S64x512, .f32⟩ : BufTy).Contents (Elt F)),
    nullary main_cst_12 (constant S_ .f32 0x3F000000#32),
    unary main_cst_12 main_v86 (broadcastInDim S64x512 ![] bcast_S_S64x512 : (⟨S_, .f32⟩ : BufTy).Contents (Elt F) → (⟨S64x512, .f32⟩ : BufTy).Contents (Elt F)),
    binary main_v86 main_v85 main_v87 (mulf : (⟨S64x512, .f32⟩ : BufTy).Contents (Elt F) → (⟨S64x512, .f32⟩ : BufTy).Contents (Elt F) → (⟨S64x512, .f32⟩ : BufTy).Contents (Elt F)),
    unary main_v85 main_v88 (Host.negf : (⟨S64x512, .f32⟩ : BufTy).Contents (Elt F) → (⟨S64x512, .f32⟩ : BufTy).Contents (Elt F)),
    nullary main_cst_13 (constant S_ .f32 0x3F3504F3#32),
    unary main_cst_13 main_v89 (broadcastInDim S64x512 ![] bcast_S_S64x512 : (⟨S_, .f32⟩ : BufTy).Contents (Elt F) → (⟨S64x512, .f32⟩ : BufTy).Contents (Elt F)),
    binary main_v88 main_v89 main_v90 (mulf : (⟨S64x512, .f32⟩ : BufTy).Contents (Elt F) → (⟨S64x512, .f32⟩ : BufTy).Contents (Elt F) → (⟨S64x512, .f32⟩ : BufTy).Contents (Elt F)),
    unary main_v90 main_v91 (Host.erfc : (⟨S64x512, .f32⟩ : BufTy).Contents (Elt F) → (⟨S64x512, .f32⟩ : BufTy).Contents (Elt F)),
    binary main_v87 main_v91 main_v92 (mulf : (⟨S64x512, .f32⟩ : BufTy).Contents (Elt F) → (⟨S64x512, .f32⟩ : BufTy).Contents (Elt F) → (⟨S64x512, .f32⟩ : BufTy).Contents (Elt F)) ]

/-- The operations that end at the fused features normalised. -/
def fuseNormOps : List (HloOp τ sig (Elt F)) :=
  [ nullary main_cst_14 (constant S_ .f32 0x00000000#32),
    binary main_v92 main_cst_14 main_v93 ((fun x v => Host.reduceAdd x v reducesTo_S64x512_S64_d1 h_S_) : (⟨S64x512, .f32⟩ : BufTy).Contents (Elt F) → (⟨S_, .f32⟩ : BufTy).Contents (Elt F) → (⟨S64, .f32⟩ : BufTy).Contents (Elt F)),
    unary main_v93 main_v94 (broadcastInDim S64x1 ![0] bcast_S64_S64x1_0 : (⟨S64, .f32⟩ : BufTy).Contents (Elt F) → (⟨S64x1, .f32⟩ : BufTy).Contents (Elt F)),
    nullary main_cst_15 (constant S_ .f32 0x44000000#32),
    unary main_cst_15 main_v95 (broadcastInDim S64x1 ![] bcast_S_S64x1 : (⟨S_, .f32⟩ : BufTy).Contents (Elt F) → (⟨S64x1, .f32⟩ : BufTy).Contents (Elt F)),
    binary main_v94 main_v95 main_v96 (Host.divf : (⟨S64x1, .f32⟩ : BufTy).Contents (Elt F) → (⟨S64x1, .f32⟩ : BufTy).Contents (Elt F) → (⟨S64x1, .f32⟩ : BufTy).Contents (Elt F)),
    nullary main_c_16 (constantI S_ 32 0#32),
    TRef.nullary (TRef.of (T := ⟨S_, .f32⟩) main_call3_cst) (constant S_ .f32 0x00000000#32),
    TRef.binary (TRef.of (T := ⟨S64x512, .f32⟩) main_v92) (TRef.of (T := ⟨S_, .f32⟩) main_call3_cst) (TRef.of (T := ⟨S64, .f32⟩) main_call3_v0) (fun x v => Host.reduceAdd x v reducesTo_S64x512_S64_d1 h_S_),
    TRef.unary (TRef.of (T := ⟨S64, .f32⟩) main_call3_v0) (TRef.of (T := ⟨S64x1, .f32⟩) main_call3_v1) (broadcastInDim S64x1 ![0] bcast_S64_S64x1_0),
    TRef.nullary (TRef.of (T := ⟨S_, .f32⟩) main_call3_cst_0) (constant S_ .f32 0x44000000#32),
    TRef.unary (TRef.of (T := ⟨S_, .f32⟩) main_call3_cst_0) (TRef.of (T := ⟨S64x1, .f32⟩) main_call3_v2) (broadcastInDim S64x1 ![] bcast_S_S64x1),
    TRef.binary (TRef.of (T := ⟨S64x1, .f32⟩) main_call3_v1) (TRef.of (T := ⟨S64x1, .f32⟩) main_call3_v2) (TRef.of (T := ⟨S64x1, .f32⟩) main_call3_v3) Host.divf,
    TRef.unary (TRef.of (T := ⟨S64x1, .f32⟩) main_call3_v3) (TRef.of (T := ⟨S64x512, .f32⟩) main_call3_v4) (broadcastInDim S64x512 ![0, 1] bcast_S64x1_S64x512_0_1),
    TRef.binary (TRef.of (T := ⟨S64x512, .f32⟩) main_v92) (TRef.of (T := ⟨S64x512, .f32⟩) main_call3_v4) (TRef.of (T := ⟨S64x512, .f32⟩) main_call3_v5) subf,
    TRef.binary (TRef.of (T := ⟨S64x512, .f32⟩) main_call3_v5) (TRef.of (T := ⟨S64x512, .f32⟩) main_call3_v5) (TRef.of (T := ⟨S64x512, .f32⟩) main_call3_v6) mulf,
    TRef.unary (TRef.of (T := ⟨S_, .i32⟩) main_c_16) (TRef.of (T := ⟨S_, .f32⟩) main_call3_v7) (sitofp .f32),
    TRef.nullary (TRef.of (T := ⟨S_, .f32⟩) main_call3_cst_1) (constant S_ .f32 0x44000000#32),
    TRef.binary (TRef.of (T := ⟨S_, .f32⟩) main_call3_cst_1) (TRef.of (T := ⟨S_, .f32⟩) main_call3_v7) (TRef.of (T := ⟨S_, .f32⟩) main_call3_v8) subf,
    TRef.nullary (TRef.of (T := ⟨S_, .f32⟩) main_call3_cst_2) (constant S_ .f32 0x00000000#32),
    TRef.binary (TRef.of (T := ⟨S64x512, .f32⟩) main_call3_v6) (TRef.of (T := ⟨S_, .f32⟩) main_call3_cst_2) (TRef.of (T := ⟨S64, .f32⟩) main_call3_v9) (fun x v => Host.reduceAdd x v reducesTo_S64x512_S64_d1 h_S_),
    TRef.unary (TRef.of (T := ⟨S64, .f32⟩) main_call3_v9) (TRef.of (T := ⟨S64x1, .f32⟩) main_call3_v10) (broadcastInDim S64x1 ![0] bcast_S64_S64x1_0),
    TRef.unary (TRef.of (T := ⟨S_, .f32⟩) main_call3_v8) (TRef.of (T := ⟨S64x1, .f32⟩) main_call3_v11) (broadcastInDim S64x1 ![] bcast_S_S64x1),
    TRef.binary (TRef.of (T := ⟨S64x1, .f32⟩) main_call3_v10) (TRef.of (T := ⟨S64x1, .f32⟩) main_call3_v11) (TRef.of (T := ⟨S64x1, .f32⟩) main_call3_v12) Host.divf,
    TRef.nullary (TRef.of (T := ⟨S_, .f32⟩) main_call3_cst_3) (constant S_ .f32 0x00000000#32),
    TRef.binary (TRef.of (T := ⟨S_, .f32⟩) main_call3_v8) (TRef.of (T := ⟨S_, .f32⟩) main_call3_cst_3) (TRef.of (T := ⟨S_, .i1⟩) main_call3_v13) (cmpf .ogt),
    TRef.nullary (TRef.of (T := ⟨S_, .f32⟩) main_call3_cst_4) (constant S_ .f32 0x7FC00000#32),
    TRef.unary (TRef.of (T := ⟨S_, .f32⟩) main_call3_cst_4) (TRef.of (T := ⟨S_, .f32⟩) main_call3_call0_v0) id,
    TRef.unary (TRef.of (T := ⟨S_, .f32⟩) main_call3_call0_v0) (TRef.of (T := ⟨S64x1, .f32⟩) main_call3_call0_v1) (broadcastInDim S64x1 ![] bcast_S_S64x1),
    TRef.ternary (TRef.of (T := ⟨S_, .i1⟩) main_call3_v13) (TRef.of (T := ⟨S64x1, .f32⟩) main_call3_v12) (TRef.of (T := ⟨S64x1, .f32⟩) main_call3_call0_v1) (TRef.of (T := ⟨S64x1, .f32⟩) main_v97) (fun p a b => select (broadcastInDim S64x1 ![] bcast_S_S64x1 p) a b),
    unary main_v96 main_v98 (broadcastInDim S64x512 ![0, 1] bcast_S64x1_S64x512_0_1 : (⟨S64x1, .f32⟩ : BufTy).Contents (Elt F) → (⟨S64x512, .f32⟩ : BufTy).Contents (Elt F)),
    binary main_v92 main_v98 main_v99 (subf : (⟨S64x512, .f32⟩ : BufTy).Contents (Elt F) → (⟨S64x512, .f32⟩ : BufTy).Contents (Elt F) → (⟨S64x512, .f32⟩ : BufTy).Contents (Elt F)),
    nullary main_cst_17 (constant S_ .f32 0x3727C5AC#32),
    unary main_cst_17 main_v100 (broadcastInDim S64x1 ![] bcast_S_S64x1 : (⟨S_, .f32⟩ : BufTy).Contents (Elt F) → (⟨S64x1, .f32⟩ : BufTy).Contents (Elt F)),
    binary main_v97 main_v100 main_v101 (addf : (⟨S64x1, .f32⟩ : BufTy).Contents (Elt F) → (⟨S64x1, .f32⟩ : BufTy).Contents (Elt F) → (⟨S64x1, .f32⟩ : BufTy).Contents (Elt F)),
    unary main_v101 main_v102 (Host.sqrt : (⟨S64x1, .f32⟩ : BufTy).Contents (Elt F) → (⟨S64x1, .f32⟩ : BufTy).Contents (Elt F)),
    unary main_v102 main_v103 (broadcastInDim S64x512 ![0, 1] bcast_S64x1_S64x512_0_1 : (⟨S64x1, .f32⟩ : BufTy).Contents (Elt F) → (⟨S64x512, .f32⟩ : BufTy).Contents (Elt F)),
    binary main_v99 main_v103 main_v104 (Host.divf : (⟨S64x512, .f32⟩ : BufTy).Contents (Elt F) → (⟨S64x512, .f32⟩ : BufTy).Contents (Elt F) → (⟨S64x512, .f32⟩ : BufTy).Contents (Elt F)) ]

/-- The operations that end at the hidden layer. -/
def hiddenOps : List (HloOp τ sig (Elt F)) :=
  [ unary main_arg17 main_v105 (broadcastInDim S1x512 ![1] bcast_S512_S1x512_1 : (⟨S512, .f32⟩ : BufTy).Contents (Elt F) → (⟨S1x512, .f32⟩ : BufTy).Contents (Elt F)),
    unary main_v105 main_v106 (broadcastInDim S64x512 ![0, 1] bcast_S1x512_S64x512_0_1 : (⟨S1x512, .f32⟩ : BufTy).Contents (Elt F) → (⟨S64x512, .f32⟩ : BufTy).Contents (Elt F)),
    binary main_v104 main_v106 main_v107 (mulf : (⟨S64x512, .f32⟩ : BufTy).Contents (Elt F) → (⟨S64x512, .f32⟩ : BufTy).Contents (Elt F) → (⟨S64x512, .f32⟩ : BufTy).Contents (Elt F)),
    unary main_arg18 main_v108 (broadcastInDim S1x512 ![1] bcast_S512_S1x512_1 : (⟨S512, .f32⟩ : BufTy).Contents (Elt F) → (⟨S1x512, .f32⟩ : BufTy).Contents (Elt F)),
    unary main_v108 main_v109 (broadcastInDim S64x512 ![0, 1] bcast_S1x512_S64x512_0_1 : (⟨S1x512, .f32⟩ : BufTy).Contents (Elt F) → (⟨S64x512, .f32⟩ : BufTy).Contents (Elt F)),
    binary main_v107 main_v109 main_v110 (addf : (⟨S64x512, .f32⟩ : BufTy).Contents (Elt F) → (⟨S64x512, .f32⟩ : BufTy).Contents (Elt F) → (⟨S64x512, .f32⟩ : BufTy).Contents (Elt F)),
    binary main_v110 main_arg19 main_v111 ((fun l r => Host.dotGeneral dot_S64x512_S512x512_S64x512_1_0_0_1_n_n none l r) : (⟨S64x512, .f32⟩ : BufTy).Contents (Elt F) → (⟨S512x512, .f32⟩ : BufTy).Contents (Elt F) → (⟨S64x512, .f32⟩ : BufTy).Contents (Elt F)),
    unary main_arg20 main_v112 (broadcastInDim S1x512 ![1] bcast_S512_S1x512_1 : (⟨S512, .f32⟩ : BufTy).Contents (Elt F) → (⟨S1x512, .f32⟩ : BufTy).Contents (Elt F)),
    unary main_v112 main_v113 (broadcastInDim S64x512 ![0, 1] bcast_S1x512_S64x512_0_1 : (⟨S1x512, .f32⟩ : BufTy).Contents (Elt F) → (⟨S64x512, .f32⟩ : BufTy).Contents (Elt F)),
    binary main_v111 main_v113 main_v114 (addf : (⟨S64x512, .f32⟩ : BufTy).Contents (Elt F) → (⟨S64x512, .f32⟩ : BufTy).Contents (Elt F) → (⟨S64x512, .f32⟩ : BufTy).Contents (Elt F)),
    nullary main_cst_18 (constant S_ .f32 0x3F000000#32),
    unary main_cst_18 main_v115 (broadcastInDim S64x512 ![] bcast_S_S64x512 : (⟨S_, .f32⟩ : BufTy).Contents (Elt F) → (⟨S64x512, .f32⟩ : BufTy).Contents (Elt F)),
    binary main_v115 main_v114 main_v116 (mulf : (⟨S64x512, .f32⟩ : BufTy).Contents (Elt F) → (⟨S64x512, .f32⟩ : BufTy).Contents (Elt F) → (⟨S64x512, .f32⟩ : BufTy).Contents (Elt F)),
    unary main_v114 main_v117 (Host.negf : (⟨S64x512, .f32⟩ : BufTy).Contents (Elt F) → (⟨S64x512, .f32⟩ : BufTy).Contents (Elt F)),
    nullary main_cst_19 (constant S_ .f32 0x3F3504F3#32),
    unary main_cst_19 main_v118 (broadcastInDim S64x512 ![] bcast_S_S64x512 : (⟨S_, .f32⟩ : BufTy).Contents (Elt F) → (⟨S64x512, .f32⟩ : BufTy).Contents (Elt F)),
    binary main_v117 main_v118 main_v119 (mulf : (⟨S64x512, .f32⟩ : BufTy).Contents (Elt F) → (⟨S64x512, .f32⟩ : BufTy).Contents (Elt F) → (⟨S64x512, .f32⟩ : BufTy).Contents (Elt F)),
    unary main_v119 main_v120 (Host.erfc : (⟨S64x512, .f32⟩ : BufTy).Contents (Elt F) → (⟨S64x512, .f32⟩ : BufTy).Contents (Elt F)),
    binary main_v116 main_v120 main_v121 (mulf : (⟨S64x512, .f32⟩ : BufTy).Contents (Elt F) → (⟨S64x512, .f32⟩ : BufTy).Contents (Elt F) → (⟨S64x512, .f32⟩ : BufTy).Contents (Elt F)),
    binary main_v121 main_v92 main_v122 (addf : (⟨S64x512, .f32⟩ : BufTy).Contents (Elt F) → (⟨S64x512, .f32⟩ : BufTy).Contents (Elt F) → (⟨S64x512, .f32⟩ : BufTy).Contents (Elt F)) ]

/-- The operations that end at the logits. -/
def logitOps : List (HloOp τ sig (Elt F)) :=
  [ binary main_v122 main_arg21 main_v123 ((fun l r => Host.dotGeneral dot_S64x512_S512x512_S64x512_1_0_0_1_n_n none l r) : (⟨S64x512, .f32⟩ : BufTy).Contents (Elt F) → (⟨S512x512, .f32⟩ : BufTy).Contents (Elt F) → (⟨S64x512, .f32⟩ : BufTy).Contents (Elt F)),
    unary main_arg22 main_v124 (broadcastInDim S1x512 ![1] bcast_S512_S1x512_1 : (⟨S512, .f32⟩ : BufTy).Contents (Elt F) → (⟨S1x512, .f32⟩ : BufTy).Contents (Elt F)),
    unary main_v124 main_v125 (broadcastInDim S64x512 ![0, 1] bcast_S1x512_S64x512_0_1 : (⟨S1x512, .f32⟩ : BufTy).Contents (Elt F) → (⟨S64x512, .f32⟩ : BufTy).Contents (Elt F)),
    binary main_v123 main_v125 main_v126 (addf : (⟨S64x512, .f32⟩ : BufTy).Contents (Elt F) → (⟨S64x512, .f32⟩ : BufTy).Contents (Elt F) → (⟨S64x512, .f32⟩ : BufTy).Contents (Elt F)),
    nullary main_cst_20 (constant S_ .f32 0x3F000000#32),
    unary main_cst_20 main_v127 (broadcastInDim S64x512 ![] bcast_S_S64x512 : (⟨S_, .f32⟩ : BufTy).Contents (Elt F) → (⟨S64x512, .f32⟩ : BufTy).Contents (Elt F)),
    binary main_v127 main_v126 main_v128 (mulf : (⟨S64x512, .f32⟩ : BufTy).Contents (Elt F) → (⟨S64x512, .f32⟩ : BufTy).Contents (Elt F) → (⟨S64x512, .f32⟩ : BufTy).Contents (Elt F)),
    unary main_v126 main_v129 (Host.negf : (⟨S64x512, .f32⟩ : BufTy).Contents (Elt F) → (⟨S64x512, .f32⟩ : BufTy).Contents (Elt F)),
    nullary main_cst_21 (constant S_ .f32 0x3F3504F3#32),
    unary main_cst_21 main_v130 (broadcastInDim S64x512 ![] bcast_S_S64x512 : (⟨S_, .f32⟩ : BufTy).Contents (Elt F) → (⟨S64x512, .f32⟩ : BufTy).Contents (Elt F)),
    binary main_v129 main_v130 main_v131 (mulf : (⟨S64x512, .f32⟩ : BufTy).Contents (Elt F) → (⟨S64x512, .f32⟩ : BufTy).Contents (Elt F) → (⟨S64x512, .f32⟩ : BufTy).Contents (Elt F)),
    unary main_v131 main_v132 (Host.erfc : (⟨S64x512, .f32⟩ : BufTy).Contents (Elt F) → (⟨S64x512, .f32⟩ : BufTy).Contents (Elt F)),
    binary main_v128 main_v132 main_v133 (mulf : (⟨S64x512, .f32⟩ : BufTy).Contents (Elt F) → (⟨S64x512, .f32⟩ : BufTy).Contents (Elt F) → (⟨S64x512, .f32⟩ : BufTy).Contents (Elt F)),
    binary main_v133 main_arg23 main_v134 ((fun l r => Host.dotGeneral dot_S64x512_S512x256_S64x256_1_0_0_1_n_n none l r) : (⟨S64x512, .f32⟩ : BufTy).Contents (Elt F) → (⟨S512x256, .f32⟩ : BufTy).Contents (Elt F) → (⟨S64x256, .f32⟩ : BufTy).Contents (Elt F)),
    unary main_arg24 main_v135 (broadcastInDim S1x256 ![1] bcast_S256_S1x256_1 : (⟨S256, .f32⟩ : BufTy).Contents (Elt F) → (⟨S1x256, .f32⟩ : BufTy).Contents (Elt F)),
    unary main_v135 main_v136 (broadcastInDim S64x256 ![0, 1] bcast_S1x256_S64x256_0_1 : (⟨S1x256, .f32⟩ : BufTy).Contents (Elt F) → (⟨S64x256, .f32⟩ : BufTy).Contents (Elt F)),
    binary main_v134 main_v136 main_v137 (addf : (⟨S64x256, .f32⟩ : BufTy).Contents (Elt F) → (⟨S64x256, .f32⟩ : BufTy).Contents (Elt F) → (⟨S64x256, .f32⟩ : BufTy).Contents (Elt F)),
    nullary main_cst_22 (constant S_ .f32 0x3F000000#32),
    unary main_cst_22 main_v138 (broadcastInDim S64x256 ![] bcast_S_S64x256 : (⟨S_, .f32⟩ : BufTy).Contents (Elt F) → (⟨S64x256, .f32⟩ : BufTy).Contents (Elt F)),
    binary main_v138 main_v137 main_v139 (mulf : (⟨S64x256, .f32⟩ : BufTy).Contents (Elt F) → (⟨S64x256, .f32⟩ : BufTy).Contents (Elt F) → (⟨S64x256, .f32⟩ : BufTy).Contents (Elt F)),
    unary main_v137 main_v140 (Host.negf : (⟨S64x256, .f32⟩ : BufTy).Contents (Elt F) → (⟨S64x256, .f32⟩ : BufTy).Contents (Elt F)),
    nullary main_cst_23 (constant S_ .f32 0x3F3504F3#32),
    unary main_cst_23 main_v141 (broadcastInDim S64x256 ![] bcast_S_S64x256 : (⟨S_, .f32⟩ : BufTy).Contents (Elt F) → (⟨S64x256, .f32⟩ : BufTy).Contents (Elt F)),
    binary main_v140 main_v141 main_v142 (mulf : (⟨S64x256, .f32⟩ : BufTy).Contents (Elt F) → (⟨S64x256, .f32⟩ : BufTy).Contents (Elt F) → (⟨S64x256, .f32⟩ : BufTy).Contents (Elt F)),
    unary main_v142 main_v143 (Host.erfc : (⟨S64x256, .f32⟩ : BufTy).Contents (Elt F) → (⟨S64x256, .f32⟩ : BufTy).Contents (Elt F)),
    binary main_v139 main_v143 main_v144 (mulf : (⟨S64x256, .f32⟩ : BufTy).Contents (Elt F) → (⟨S64x256, .f32⟩ : BufTy).Contents (Elt F) → (⟨S64x256, .f32⟩ : BufTy).Contents (Elt F)),
    binary main_v144 main_arg25 main_v145 ((fun l r => Host.dotGeneral dot_S64x256_S256x10_S64x10_1_0_0_1_n_n none l r) : (⟨S64x256, .f32⟩ : BufTy).Contents (Elt F) → (⟨S256x10, .f32⟩ : BufTy).Contents (Elt F) → (⟨S64x10, .f32⟩ : BufTy).Contents (Elt F)),
    unary main_arg26 main_v146 (broadcastInDim S1x10 ![1] bcast_S10_S1x10_1 : (⟨S10, .f32⟩ : BufTy).Contents (Elt F) → (⟨S1x10, .f32⟩ : BufTy).Contents (Elt F)),
    unary main_v146 main_v147 (broadcastInDim S64x10 ![0, 1] bcast_S1x10_S64x10_0_1 : (⟨S1x10, .f32⟩ : BufTy).Contents (Elt F) → (⟨S64x10, .f32⟩ : BufTy).Contents (Elt F)),
    binary main_v145 main_v147 main_v148 (addf : (⟨S64x10, .f32⟩ : BufTy).Contents (Elt F) → (⟨S64x10, .f32⟩ : BufTy).Contents (Elt F) → (⟨S64x10, .f32⟩ : BufTy).Contents (Elt F)) ]

/-- The whole line. -/
abbrev ops : List (HloOp τ sig (Elt F)) :=
  gateOps ++ (gateNormOps ++ (residualOps ++ (gramOps ++ (distanceOps ++ (nearestOps ++ (fuseOps ++ (fuseNormOps ++ (hiddenOps ++ (logitOps)))))))))

set_option maxHeartbeats 8000000 in
/-- The printed program is that line. -/
theorem main_eq (c : Dev nD) : IsSeq (main (F := F) c) ops := by
  hlo_seq

/-- The arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

/-- What the operations up to the gated features write, -/
abbrev gateOuts : List (Ref sig .tc) := [main_v0, main_v1, main_v2, main_v3, main_call0_cst, main_call0_v0, main_v4, main_v5, main_v6, main_v7, main_v8, main_v9, main_v10, main_cst, main_v11, main_v12, main_cst_0, main_v13, main_v14, main_v15]

/-- so that they keep every other buffer. -/
theorem gate_keep (V : Valuation τ sig (Elt F)) (r : Ref sig .tc) (h : r ∉ gateOuts) :
    after gateOps V (Proc.devRef .tc r) = V (Proc.devRef .tc r) :=
  after_of_writes_sub gateOps _ (forall_writes_sub_of_map rfl) h

/-- What the operations up to the gated features normalised write, -/
abbrev gateNormOuts : List (Ref sig .tc) := [main_cst_1, main_v16, main_v17, main_cst_2, main_v18, main_v19, main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v20, main_v21, main_v22, main_cst_3, main_v23, main_v24, main_v25, main_v26, main_v27]

/-- so that they keep every other buffer. -/
theorem gateNorm_keep (V : Valuation τ sig (Elt F)) (r : Ref sig .tc) (h : r ∉ gateNormOuts) :
    after gateNormOps V (Proc.devRef .tc r) = V (Proc.devRef .tc r) :=
  after_of_writes_sub gateNormOps _ (forall_writes_sub_of_map rfl) h

/-- What the operations up to the residual branch write, -/
abbrev residualOuts : List (Ref sig .tc) := [main_v28, main_v29, main_v30, main_v31, main_v32, main_v33, main_v34, main_v35, main_v36, main_v37, main_cst_4, main_v38, main_v39, main_v40, main_cst_5, main_v41, main_v42, main_v43, main_v44, main_v45, main_v46, main_v47, main_v48, main_v49]

/-- so that they keep every other buffer. -/
theorem residual_keep (V : Valuation τ sig (Elt F)) (r : Ref sig .tc) (h : r ∉ residualOuts) :
    after residualOps V (Proc.devRef .tc r) = V (Proc.devRef .tc r) :=
  after_of_writes_sub residualOps _ (forall_writes_sub_of_map rfl) h

/-- What the operations up to the Gram features write, -/
abbrev gramOuts : List (Ref sig .tc) := [main_v50, main_v51, main_cst_6, main_v52, main_v53, main_v54, main_v55, main_v56, main_v57, main_v58]

/-- so that they keep every other buffer. -/
theorem gram_keep (V : Valuation τ sig (Elt F)) (r : Ref sig .tc) (h : r ∉ gramOuts) :
    after gramOps V (Proc.devRef .tc r) = V (Proc.devRef .tc r) :=
  after_of_writes_sub gramOps _ (forall_writes_sub_of_map rfl) h

/-- What the operations up to the squared distances write, -/
abbrev distanceOuts : List (Ref sig .tc) := [main_v59, main_cst_7, main_v60, main_v61, main_cst_8, main_v62, main_v63, main_v64, main_v65, main_v66, main_v67, main_v68, main_cst_9, main_v69, main_v70, main_v71, main_v72]

/-- so that they keep every other buffer. -/
theorem distance_keep (V : Valuation τ sig (Elt F)) (r : Ref sig .tc) (h : r ∉ distanceOuts) :
    after distanceOps V (Proc.devRef .tc r) = V (Proc.devRef .tc r) :=
  after_of_writes_sub distanceOps _ (forall_writes_sub_of_map rfl) h

/-- What the operations up to the nearest centre write, -/
abbrev nearestOuts : List (Ref sig .tc) := [main_call2_v0, main_call2_cst, main_call2_c, main_call2_v1_0, main_v73, main_c_10, main_v74, main_v75, main_c_11, main_v76, main_v77, main_v78, main_v79, main_v80]

/-- so that they keep every other buffer. -/
theorem nearest_keep (V : Valuation τ sig (Elt F)) (r : Ref sig .tc) (h : r ∉ nearestOuts) :
    after nearestOps V (Proc.devRef .tc r) = V (Proc.devRef .tc r) :=
  after_of_writes_sub nearestOps _ (forall_writes_sub_of_map rfl) h

/-- What the operations up to the fused features write, -/
abbrev fuseOuts : List (Ref sig .tc) := [main_v81, main_v82, main_v83, main_v84, main_v85, main_cst_12, main_v86, main_v87, main_v88, main_cst_13, main_v89, main_v90, main_v91, main_v92]

/-- so that they keep every other buffer. -/
theorem fuse_keep (V : Valuation τ sig (Elt F)) (r : Ref sig .tc) (h : r ∉ fuseOuts) :
    after fuseOps V (Proc.devRef .tc r) = V (Proc.devRef .tc r) :=
  after_of_writes_sub fuseOps _ (forall_writes_sub_of_map rfl) h

/-- What the operations up to the fused features normalised write, -/
abbrev fuseNormOuts : List (Ref sig .tc) := [main_cst_14, main_v93, main_v94, main_cst_15, main_v95, main_v96, main_c_16, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v97, main_v98, main_v99, main_cst_17, main_v100, main_v101, main_v102, main_v103, main_v104]

/-- so that they keep every other buffer. -/
theorem fuseNorm_keep (V : Valuation τ sig (Elt F)) (r : Ref sig .tc) (h : r ∉ fuseNormOuts) :
    after fuseNormOps V (Proc.devRef .tc r) = V (Proc.devRef .tc r) :=
  after_of_writes_sub fuseNormOps _ (forall_writes_sub_of_map rfl) h

/-- What the operations up to the hidden layer write, -/
abbrev hiddenOuts : List (Ref sig .tc) := [main_v105, main_v106, main_v107, main_v108, main_v109, main_v110, main_v111, main_v112, main_v113, main_v114, main_cst_18, main_v115, main_v116, main_v117, main_cst_19, main_v118, main_v119, main_v120, main_v121, main_v122]

/-- so that they keep every other buffer. -/
theorem hidden_keep (V : Valuation τ sig (Elt F)) (r : Ref sig .tc) (h : r ∉ hiddenOuts) :
    after hiddenOps V (Proc.devRef .tc r) = V (Proc.devRef .tc r) :=
  after_of_writes_sub hiddenOps _ (forall_writes_sub_of_map rfl) h

/-- What the operations up to the logits write, -/
abbrev logitOuts : List (Ref sig .tc) := [main_v123, main_v124, main_v125, main_v126, main_cst_20, main_v127, main_v128, main_v129, main_cst_21, main_v130, main_v131, main_v132, main_v133, main_v134, main_v135, main_v136, main_v137, main_cst_22, main_v138, main_v139, main_v140, main_cst_23, main_v141, main_v142, main_v143, main_v144, main_v145, main_v146, main_v147, main_v148]

/-- so that they keep every other buffer. -/
theorem logit_keep (V : Valuation τ sig (Elt F)) (r : Ref sig .tc) (h : r ∉ logitOuts) :
    after logitOps V (Proc.devRef .tc r) = V (Proc.devRef .tc r) :=
  after_of_writes_sub logitOps _ (forall_writes_sub_of_map rfl) h

end Cert.ReferenceIdeal.Line

end
-- ==== Proof.ReferenceValues.lean ====
/- What the reference computes, one named function per stretch of its operations, and its run. -/
module

public import proofs.«01_k».proof.Proof.ReferenceOps

@[expose] public section

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- A vector under every row. -/
def rows512 (b : Vec F S512 .f32) : Vec F S64x512 .f32 :=
  broadcastInDim S64x512 ![0, 1] bcast_S1x512_S64x512_0_1 (broadcastInDim S1x512 ![1] bcast_S512_S1x512_1 b)

/-- One literal in every place. -/
def splat {S : Shape} (h : S_.BroadcastsInDim S (![] : Fin 0 → Fin S.rank)) (b : BitVec 32) : Vec F S .f32 :=
  broadcastInDim S ![] h (constant S_ .f32 b)

/-- A dense layer of 512 columns over 512. -/
def dense (x : Vec F S64x512 .f32) (w : Vec F S512x512 .f32) (b : Vec F S512 .f32) : Vec F S64x512 .f32 :=
  addf (Host.dotGeneral dot_S64x512_S512x512_S64x512_1_0_0_1_n_n none x w) (rows512 b)

/-- The exact gelu, spelled with the complementary error function. -/
def gelu {S : Shape} (h : S_.BroadcastsInDim S (![] : Fin 0 → Fin S.rank)) (x : Vec F S .f32) : Vec F S .f32 :=
  mulf (mulf (splat h 0x3F000000#32) x) (Host.erfc (mulf (Host.negf x) (splat h 0x3F3504F3#32)))

/-- The mean of each row. -/
def mean (x : Vec F S64x512 .f32) : Vec F S64x1 .f32 :=
  Host.divf (broadcastInDim S64x1 ![0] bcast_S64_S64x1_0 (Host.reduceAdd x (constant S_ .f32 0x00000000#32) reducesTo_S64x512_S64_d1 h_S_))
    (splat bcast_S_S64x1 0x44000000#32)

/-- A column under every column. -/
def cols (x : Vec F S64x1 .f32) : Vec F S64x512 .f32 := broadcastInDim S64x512 ![0, 1] bcast_S64x1_S64x512_0_1 x

/-- The number of entries that a row's variance divides by: 512 less the integer 0. -/
def count : Vec F S_ .f32 := subf (constant S_ .f32 0x44000000#32) (sitofp .f32 (constantI S_ 32 0#32))

/-- The variance of each row, guarded against an empty one. -/
def variance (x : Vec F S64x512 .f32) : Vec F S64x1 .f32 :=
  select (broadcastInDim S64x1 ![] bcast_S_S64x1 (cmpf .ogt (count (F := F)) (constant S_ .f32 0x00000000#32)))
    (Host.divf (broadcastInDim S64x1 ![0] bcast_S64_S64x1_0
        (Host.reduceAdd (mulf (subf x (cols (mean x))) (subf x (cols (mean x)))) (constant S_ .f32 0x00000000#32) reducesTo_S64x512_S64_d1 h_S_))
      (broadcastInDim S64x1 ![] bcast_S_S64x1 count))
    (broadcastInDim S64x1 ![] bcast_S_S64x1 (id (constant S_ .f32 0x7FC00000#32)))

/-- A layernorm before its scale and shift. -/
def norm (x : Vec F S64x512 .f32) : Vec F S64x512 .f32 :=
  Host.divf (subf x (cols (mean x))) (cols (Host.sqrt (addf (variance x) (splat bcast_S_S64x1 0x3727C5AC#32))))

/-- The logistic function, spelled with the exponential. -/
def sigmoid (x : Vec F S64x512 .f32) : Vec F S64x512 .f32 :=
  Host.divf (splat bcast_S_S64x512 0x3F800000#32) (addf (splat bcast_S_S64x512 0x3F800000#32) (Host.exp (Host.negf x)))

/-- The gated input. -/
def gate (x : Vec F S64x512 .f32) (w1 : Vec F S512x512 .f32) (b1 : Vec F S512 .f32) (w2 : Vec F S512x512 .f32) (b2 : Vec F S512 .f32) :
    Vec F S64x512 .f32 :=
  mulf x (sigmoid (dense (maximumf (dense x w1 b1) (splat bcast_S_S64x512 0x00000000#32)) w2 b2))

/-- The four times wider layer. -/
def wide (x : Vec F S64x512 .f32) (w : Vec F S512x2048 .f32) (b : Vec F S2048 .f32) : Vec F S64x2048 .f32 :=
  addf (Host.dotGeneral dot_S64x512_S512x2048_S64x2048_1_0_0_1_n_n none x w)
    (broadcastInDim S64x2048 ![0, 1] bcast_S1x2048_S64x2048_0_1 (broadcastInDim S1x2048 ![1] bcast_S2048_S1x2048_1 b))

/-- Scale and shift. -/
def affine (x : Vec F S64x512 .f32) (g b : Vec F S512 .f32) : Vec F S64x512 .f32 := addf (mulf x (rows512 g)) (rows512 b)

/-- The feed-forward layer and its residual. -/
def residual (a n : Vec F S64x512 .f32) (g b : Vec F S512 .f32) (w1 : Vec F S512x2048 .f32) (b1 : Vec F S2048 .f32)
    (w2 : Vec F S2048x512 .f32) (b2 : Vec F S512 .f32) : Vec F S64x512 .f32 :=
  addf a (addf (Host.dotGeneral dot_S64x2048_S2048x512_S64x512_1_0_0_1_n_n none (gelu bcast_S_S64x2048 (wide (affine n g b) w1 b1)) w2) (rows512 b2))

/-- The Gram matrices over the 784 positions. -/
def grams (image : Vec F S64x512x28x28 .f32) : Vec F S64x512x512 .f32 :=
  Host.divf (Host.dotGeneral dot_S64x512x784_S64x512x784_S64x512x512_2_2_1_1_0_0 none
      (shapeCast S64x512x784 image shapeCasts_S64x512x28x28_S64x512x784) (shapeCast S64x512x784 image shapeCasts_S64x512x28x28_S64x512x784))
    (splat bcast_S_S64x512x512 0x44440000#32)

/-- The Gram features. -/
def gram (image : Vec F S64x512x28x28 .f32) (w : Vec F S262144x512 .f32) (b : Vec F S512 .f32) : Vec F S64x512 .f32 :=
  addf (Host.dotGeneral dot_S64x262144_S262144x512_S64x512_1_0_0_1_n_n none (shapeCast S64x262144 (grams image) shapeCasts_S64x512x512_S64x262144) w)
    (rows512 b)

/-- The squared distances to the centres. -/
def distance (f : Vec F S64x512 .f32) (centers : Vec F S20x512 .f32) : Vec F S64x20 .f32 :=
  addf (subf
      (broadcastInDim S64x20 ![0, 1] bcast_S64x1_S64x20_0_1 (broadcastInDim S64x1 ![0] bcast_S64_S64x1_0
        (Host.reduceAdd (mulf f f) (constant S_ .f32 0x00000000#32) reducesTo_S64x512_S64_d1 h_S_)))
      (Host.dotGeneral dot_S64x512_S512x20_S64x20_1_0_0_1_n_n none (mulf (splat bcast_S_S64x512 0x40000000#32) f)
        (transpose S512x20 [1, 0] centers transposes_S20x512_S512x20_1_0)))
    (broadcastInDim S64x20 ![0, 1] bcast_S1x20_S64x20_0_1 (broadcastInDim S1x20 ![1] bcast_S20_S1x20_1
      (Host.reduceAdd (mulf centers centers) (constant S_ .f32 0x00000000#32) reducesTo_S20x512_S20_d1 h_S_)))

/-- The index of each row's least distance, the first where several are least. -/
def least (d : Vec F S64x20 .f32) : Vec F S64 .i32 := fun j =>
  (Host.argReduce reducer_argmin_f32_i32 d (iotaInDim S64x20 32 1) (constant S_ .f32 0x7F800000#32) (constantI S_ 32 0#32)
    reducesTo_S64x20_S64_d1 h_S_ j).2

/-- The nearest centre. -/
def nearest (d : Vec F S64x20 .f32) (centers : Vec F S20x512 .f32) : Vec F S64x512 .f32 :=
  Host.gather gather_S20x512_S64x1_S64x512_1_0_n_n_0_1_1512 centers
    (broadcastInDim S64x1 ![0] bcast_S64_S64x1_0
      (select (cmpi .slt (least d) (broadcastInDim S64 ![] bcast_S_S64 (constantI S_ 32 0#32)))
        (addi (least d) (broadcastInDim S64 ![] bcast_S_S64 (constantI S_ 32 20#32))) (least d)))

/-- The fused features. -/
def fuse (a c : Vec F S64x512 .f32) (w : Vec F S1024x512 .f32) (b : Vec F S512 .f32) : Vec F S64x512 .f32 :=
  gelu bcast_S_S64x512 (addf (Host.dotGeneral dot_S64x1024_S1024x512_S64x512_1_0_0_1_n_n none (beside a c) w) (rows512 b))

/-- The layer after them with its residual. -/
def hidden (x n : Vec F S64x512 .f32) (g b : Vec F S512 .f32) (w : Vec F S512x512 .f32) (c : Vec F S512 .f32) : Vec F S64x512 .f32 :=
  addf (gelu bcast_S_S64x512 (dense (affine n g b) w c)) x

/-- The last three layers. -/
def logit (h : Vec F S64x512 .f32) (w1 : Vec F S512x512 .f32) (b1 : Vec F S512 .f32) (w2 : Vec F S512x256 .f32) (b2 : Vec F S256 .f32)
    (w3 : Vec F S256x10 .f32) (b3 : Vec F S10 .f32) : Vec F S64x10 .f32 :=
  addf (Host.dotGeneral dot_S64x256_S256x10_S64x10_1_0_0_1_n_n none
      (gelu bcast_S_S64x256 (addf (Host.dotGeneral dot_S64x512_S512x256_S64x256_1_0_0_1_n_n none (gelu bcast_S_S64x512 (dense h w1 b1)) w2)
        (broadcastInDim S64x256 ![0, 1] bcast_S1x256_S64x256_0_1 (broadcastInDim S1x256 ![1] bcast_S256_S1x256_1 b2)))) w3)
    (broadcastInDim S64x10 ![0, 1] bcast_S1x10_S64x10_0_1 (broadcastInDim S1x10 ![1] bcast_S10_S1x10_1 b3))

/-- The stretch that ends at `gate` computes it. -/
theorem gate_value (V : Valuation τ sig (Elt F)) :
    after gateOps V (Proc.devRef .tc main_v15) = gate (V (Proc.devRef .tc main_arg0)) (V (Proc.devRef .tc main_arg2)) (V (Proc.devRef .tc main_arg3)) (V (Proc.devRef .tc main_arg4)) (V (Proc.devRef .tc main_arg5)) := by
  unfold gateOps; after_results_simp
  rfl

/-- The stretch that ends at `gateNorm` computes it. -/
theorem gateNorm_value (V : Valuation τ sig (Elt F)) :
    after gateNormOps V (Proc.devRef .tc main_v27) = norm (V (Proc.devRef .tc main_v15)) := by
  unfold gateNormOps; after_results_simp
  rfl

/-- The stretch that ends at `residual` computes it. -/
theorem residual_value (V : Valuation τ sig (Elt F)) :
    after residualOps V (Proc.devRef .tc main_v49) = residual (V (Proc.devRef .tc main_v15)) (V (Proc.devRef .tc main_v27)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  unfold residualOps; after_results_simp
  rfl

/-- The stretch that ends at `gram` computes it. -/
theorem gram_value (V : Valuation τ sig (Elt F)) :
    after gramOps V (Proc.devRef .tc main_v58) = gram (V (Proc.devRef .tc main_arg1)) (V (Proc.devRef .tc main_arg12)) (V (Proc.devRef .tc main_arg13)) := by
  unfold gramOps; after_results_simp
  rfl

/-- The stretch that ends at `distance` computes it. -/
theorem distance_value (V : Valuation τ sig (Elt F)) :
    after distanceOps V (Proc.devRef .tc main_v72) = distance (V (Proc.devRef .tc main_v58)) (V (Proc.devRef .tc main_arg14)) := by
  unfold distanceOps; after_results_simp
  rfl

/-- The stretch that ends at `nearest` computes it. -/
theorem nearest_value (V : Valuation τ sig (Elt F)) :
    after nearestOps V (Proc.devRef .tc main_v80) = nearest (V (Proc.devRef .tc main_v72)) (V (Proc.devRef .tc main_arg14)) := by
  unfold nearestOps; after_results_simp
  rfl

/-- The stretch that ends at `fuse` computes it. -/
theorem fuse_value (V : Valuation τ sig (Elt F)) :
    after fuseOps V (Proc.devRef .tc main_v92) = fuse (V (Proc.devRef .tc main_v49)) (V (Proc.devRef .tc main_v80)) (V (Proc.devRef .tc main_arg15)) (V (Proc.devRef .tc main_arg16)) := by
  unfold fuseOps; after_results_simp
  rfl

/-- The stretch that ends at `fuseNorm` computes it. -/
theorem fuseNorm_value (V : Valuation τ sig (Elt F)) :
    after fuseNormOps V (Proc.devRef .tc main_v104) = norm (V (Proc.devRef .tc main_v92)) := by
  unfold fuseNormOps; after_results_simp
  rfl

/-- The stretch that ends at `hidden` computes it. -/
theorem hidden_value (V : Valuation τ sig (Elt F)) :
    after hiddenOps V (Proc.devRef .tc main_v122) = hidden (V (Proc.devRef .tc main_v92)) (V (Proc.devRef .tc main_v104)) (V (Proc.devRef .tc main_arg17)) (V (Proc.devRef .tc main_arg18)) (V (Proc.devRef .tc main_arg19)) (V (Proc.devRef .tc main_arg20)) := by
  unfold hiddenOps; after_results_simp
  rfl

/-- The stretch that ends at `logit` computes it. -/
theorem logit_value (V : Valuation τ sig (Elt F)) :
    after logitOps V (Proc.devRef .tc main_v148) = logit (V (Proc.devRef .tc main_v122)) (V (Proc.devRef .tc main_arg21)) (V (Proc.devRef .tc main_arg22)) (V (Proc.devRef .tc main_arg23)) (V (Proc.devRef .tc main_arg24)) (V (Proc.devRef .tc main_arg25)) (V (Proc.devRef .tc main_arg26)) := by
  unfold logitOps; after_results_simp
  rfl

end Cert.ReferenceIdeal.Line

end
-- ==== Proof.Consts.lean ====
/- The literals of the two programs as extended reals. -/
module

public import Idealize.ShloMosaic.Lib.Pointwise

@[expose] public section

noncomputable section

namespace Cert.Layers

open Idealize.ShloMosaic

/-- The word of 512. -/
theorem word512 : Ideal.ofBits .f32 0x44000000#32 = ((512 : ℝ) : EReal) := by
  simp [Ideal.ofBits, Ideal.ieee, -EReal.coe_mul]; norm_num

/-- The word of 784. -/
theorem word784 : Ideal.ofBits .f32 0x44440000#32 = ((784 : ℝ) : EReal) := by
  simp [Ideal.ofBits, Ideal.ieee, -EReal.coe_mul]; norm_num

/-- The word of 2. -/
theorem word2 : Ideal.ofBits .f32 0x40000000#32 = ((2 : ℝ) : EReal) := by
  simp [Ideal.ofBits, Ideal.ieee, -EReal.coe_mul]; norm_num

/-- The word of infinity. -/
theorem wordTop : Ideal.ofBits .f32 0x7F800000#32 = (⊤ : EReal) := by simp [Ideal.ofBits, Ideal.ieee]

end Cert.Layers

end
-- ==== Proof.Layers.lean ====
/- The two programs' layers over the extended reals: each stretch of the kernel's vector operations is the reference's
   function of the same operands. -/
module

public import proofs.«01_k».proof.Proof.HeadBody
public import proofs.«01_k».proof.Proof.ReferenceValues
public import proofs.«01_k».proof.Proof.Consts
public import Idealize.ShloMosaic.Lib.Pointwise

@[expose] public section

set_option maxRecDepth 16384

noncomputable section

namespace Cert.Layers

open Cert.KernelIdeal Cert.KernelIdeal.Gen Idealize.ShloMosaic
open Cert.ReferenceIdeal.Line

/-- A vector cast to a row and put under every row. -/
theorem rows_eq (b : FVec Ideal S512 .f32) :
    broadcastTo S64x512 (shapeCast S1x512 b shapeCasts_S512_S1x512) broadcasts_S1x512_S64x512 = rows512 (F := Ideal) b := by
  funext j; pointwise! [rows512]

/-- A scalar put in every place. -/
theorem splat_eq {S : Shape} (h : Cert.ReferenceIdeal.S_.BroadcastsInDim S (![] : Fin 0 → Fin S.rank)) (w : BitVec 32) :
    broadcast S (Scalar.ofBits .f32 w : Ideal .f32) = splat (F := Ideal) h w := rfl

/-- A product into a zero accumulator is the plain product: 512 to 512, -/
theorem dot512_eq (x : FVec Ideal S64x512 .f32) (w : FVec Ideal S512x512 .f32) :
    matmul (F := Ideal) dot_S64x512_S512x512_S64x512_1_0_0_1_n_n none x w (constant S64x512 .f32 0x00000000#32) =
      Host.dotGeneral Cert.ReferenceIdeal.dot_S64x512_S512x512_S64x512_1_0_0_1_n_n none x w := by
  funext j; pointwise!

/-- 512 to 2048, -/
theorem dotWide_eq (x : FVec Ideal S64x512 .f32) (w : FVec Ideal S512x2048 .f32) :
    matmul (F := Ideal) dot_S64x512_S512x2048_S64x2048_1_0_0_1_n_n none x w (constant S64x2048 .f32 0x00000000#32) =
      Host.dotGeneral Cert.ReferenceIdeal.dot_S64x512_S512x2048_S64x2048_1_0_0_1_n_n none x w := by
  funext j; pointwise!

/-- 2048 to 512, -/
theorem dotNarrow_eq (x : FVec Ideal S64x2048 .f32) (w : FVec Ideal S2048x512 .f32) :
    matmul (F := Ideal) dot_S64x2048_S2048x512_S64x512_1_0_0_1_n_n none x w (constant S64x512 .f32 0x00000000#32) =
      Host.dotGeneral Cert.ReferenceIdeal.dot_S64x2048_S2048x512_S64x512_1_0_0_1_n_n none x w := by
  funext j; pointwise!

/-- 512 to 256, -/
theorem dot256_eq (x : FVec Ideal S64x512 .f32) (w : FVec Ideal S512x256 .f32) :
    matmul (F := Ideal) dot_S64x512_S512x256_S64x256_1_0_0_1_n_n none x w (constant S64x256 .f32 0x00000000#32) =
      Host.dotGeneral Cert.ReferenceIdeal.dot_S64x512_S512x256_S64x256_1_0_0_1_n_n none x w := by
  funext j; pointwise!

/-- 256 to 10. -/
theorem dot10_eq (x : FVec Ideal S64x256 .f32) (w : FVec Ideal S256x10 .f32) :
    matmul (F := Ideal) dot_S64x256_S256x10_S64x10_1_0_0_1_n_n none x w (constant S64x10 .f32 0x00000000#32) =
      Host.dotGeneral Cert.ReferenceIdeal.dot_S64x256_S256x10_S64x10_1_0_0_1_n_n none x w := by
  funext j; pointwise!

/-- The bias under every row: 2048 wide, -/
theorem rowsWide_eq (b : FVec Ideal S2048 .f32) :
    broadcastTo S64x2048 (shapeCast S1x2048 b shapeCasts_S2048_S1x2048) broadcasts_S1x2048_S64x2048 =
      broadcastInDim Cert.ReferenceIdeal.S64x2048 ![0, 1] Cert.ReferenceIdeal.Gen.bcast_S1x2048_S64x2048_0_1
        (broadcastInDim Cert.ReferenceIdeal.S1x2048 ![1] Cert.ReferenceIdeal.Gen.bcast_S2048_S1x2048_1 b) := by
  funext j; pointwise!

/-- 256 wide, -/
theorem rows256_eq (b : FVec Ideal S256 .f32) :
    broadcastTo S64x256 (shapeCast S1x256 b shapeCasts_S256_S1x256) broadcasts_S1x256_S64x256 =
      broadcastInDim Cert.ReferenceIdeal.S64x256 ![0, 1] Cert.ReferenceIdeal.Gen.bcast_S1x256_S64x256_0_1
        (broadcastInDim Cert.ReferenceIdeal.S1x256 ![1] Cert.ReferenceIdeal.Gen.bcast_S256_S1x256_1 b) := by
  funext j; pointwise!

/-- 10 wide. -/
theorem rows10_eq (b : FVec Ideal S10 .f32) :
    broadcastTo S64x10 (shapeCast S1x10 b shapeCasts_S10_S1x10) broadcasts_S1x10_S64x10 =
      broadcastInDim Cert.ReferenceIdeal.S64x10 ![0, 1] Cert.ReferenceIdeal.Gen.bcast_S1x10_S64x10_0_1
        (broadcastInDim Cert.ReferenceIdeal.S1x10 ![1] Cert.ReferenceIdeal.Gen.bcast_S10_S1x10_1 b) := by
  funext j; pointwise!

/-- The gelu by `1 + erf` is the gelu by `erfc` of the negated argument. -/
theorem gelu_eq {S : Shape} (h : Cert.ReferenceIdeal.S_.BroadcastsInDim S (![] : Fin 0 → Fin S.rank)) (x : FVec Ideal S .f32) :
    mulf (mulf x (broadcast S (Scalar.ofBits .f32 0x3F000000#32)))
        (addf (broadcast S (Scalar.ofBits .f32 0x3F800000#32)) (erf (mulf x (broadcast S (Scalar.ofBits .f32 0x3F3504F3#32))))) =
      gelu (F := Ideal) h x := by
  funext j
  show (x j * Ideal.ofBits .f32 0x3F000000#32) * (Ideal.ofBits .f32 0x3F800000#32 + Ideal.erf (x j * Ideal.ofBits .f32 0x3F3504F3#32)) =
    (Ideal.ofBits .f32 0x3F000000#32 * x j) * Ideal.erfc (-x j * Ideal.ofBits .f32 0x3F3504F3#32)
  rw [Ideal.ofBits_one_f32, EReal.neg_mul, Ideal.erfc_neg, mul_comm (x j)]

/-- The logistic function is one over one and the exponential of the negated argument. -/
theorem sigmoid_eq (x : FVec Ideal S64x512 .f32) : logistic x = sigmoid (F := Ideal) x := by
  funext j
  pointwise [sigmoid, splat]
  rfl

/-- The kernel's row sums, as a column. -/
def sums (x : FVec Ideal S64x512 .f32) : FVec Ideal S64x1 .f32 :=
  shapeCast S64x1 (multiReduction .add [1] S64 x 0x00000000#32 reduces_S64x512_S64 (.inl rfl) rfl) shapeCasts_S64_S64x1

/-- The kernel's column of row sums over the row length. -/
def over512 (x : FVec Ideal S64x1 .f32) : FVec Ideal S64x1 .f32 := divf x (broadcast S64x1 (Scalar.ofBits .f32 0x44000000#32))

/-- A column under every column, as the kernel writes it. -/
def spread (x : FVec Ideal S64x1 .f32) : FVec Ideal S64x512 .f32 := broadcastTo S64x512 x broadcasts_S64x1_S64x512

/-- The kernel's layernorm before its scale and shift, from the operand and its row means. -/
def normFrom (x : FVec Ideal S64x512 .f32) (m : FVec Ideal S64x1 .f32) : FVec Ideal S64x512 .f32 :=
  divf (subf x (spread m))
    (spread (sqrt (addf (over512 (sums (mulf (subf x (spread m)) (subf x (spread m))))) (broadcast S64x1 (Scalar.ofBits .f32 0x3727C5AC#32)))))

/-- The row sums over 512 are the reference's mean. -/
theorem mean_eq (x : FVec Ideal S64x512 .f32) : over512 (sums x) = mean (F := Ideal) x := by
  funext j; pointwise [mean, splat, over512, sums]

/-- A column put beside every column is the reference's. -/
theorem spread_eq (x : FVec Ideal S64x1 .f32) : spread x = cols (F := Ideal) x := by
  funext j; pointwise! [cols, spread]

/-- The number a row's variance divides by is 512, which is above zero. -/
theorem count_eq : Cert.ReferenceIdeal.Line.count (F := Ideal) = constant (F := Ideal) Cert.ReferenceIdeal.S_ .f32 0x44000000#32 := by
  funext j; pointwise [Cert.ReferenceIdeal.Line.count]
  show Ideal.ofBits .f32 0x44000000#32 - (((0#32).toInt : ℝ) : EReal) = _
  simp

/-- The row variances: the guard against an empty row always passes. -/
theorem variance_eq (x : FVec Ideal S64x512 .f32) :
    over512 (sums (mulf (subf x (cols (F := Ideal) (mean x))) (subf x (cols (F := Ideal) (mean x))))) = variance (F := Ideal) x := by
  rw [variance, count_eq]
  generalize mulf (subf x (cols (F := Ideal) (mean x))) (subf x (cols (F := Ideal) (mean x))) = y
  have pos : (0 : EReal) < Ideal.ofBits .f32 0x44000000#32 := by rw [word512]; exact EReal.coe_pos.mpr (by norm_num)
  funext j
  pointwise [over512, sums]
  simp [Ideal.cmp, pos]

/-- The layernorm before its scale and shift. -/
theorem norm_eq (x : FVec Ideal S64x512 .f32) : normFrom x (over512 (sums x)) = norm (F := Ideal) x := by
  rw [normFrom, mean_eq, spread_eq, spread_eq, variance_eq]; rfl

end Cert.Layers

end
-- ==== Proof.HeadValue.lean ====
/- The second call's head over the extended reals: its branches are the reference's functions of the same operands. -/
module

public import proofs.«01_k».proof.Proof.Layers

@[expose] public section

set_option maxRecDepth 16384

noncomputable section

namespace Cert.Layers

open Cert.KernelIdeal Cert.KernelIdeal.Gen Idealize.ShloMosaic
open Cert.ReferenceIdeal.Line
open Cert.KernelIdeal.Head (Weights)

/-- The kernel's gated input is the reference's. -/
theorem gate_eq (x : FVec Ideal S64x512 .f32) (w1 : FVec Ideal S512x512 .f32) (b1 : FVec Ideal S512 .f32)
    (w2 : FVec Ideal S512x512 .f32) (b2 : FVec Ideal S512 .f32) :
    k1_pay2 (F := Ideal) x w1 b1 w2 b2 = gate (F := Ideal) x w1 b1 w2 b2 := by
  simp only [k1_pay2, dot512_eq, rows_eq, sigmoid_eq, splat_eq Cert.ReferenceIdeal.Gen.bcast_S_S64x512]
  rfl

/-- So is its normalisation. -/
theorem gateNorm_eq (x : FVec Ideal S64x512 .f32) (w1 : FVec Ideal S512x512 .f32) (b1 : FVec Ideal S512 .f32)
    (w2 : FVec Ideal S512x512 .f32) (b2 : FVec Ideal S512 .f32) :
    k1_pay3 (F := Ideal) x w1 b1 w2 b2 = norm (F := Ideal) (gate (F := Ideal) x w1 b1 w2 b2) := by
  rw [← gate_eq, ← norm_eq]
  rfl

/-- So is the residual layer after it. -/
theorem residual_eq (a n : FVec Ideal S64x512 .f32) (g b : FVec Ideal S512 .f32) (w1 : FVec Ideal S512x2048 .f32)
    (b1 : FVec Ideal S2048 .f32) (w2 : FVec Ideal S2048x512 .f32) (b2 : FVec Ideal S512 .f32) :
    k1_pay4 (F := Ideal) a g b n w1 b1 w2 b2 = residual (F := Ideal) a n g b w1 b1 w2 b2 := by
  simp only [k1_pay4, rows_eq, dotWide_eq, rowsWide_eq, dotNarrow_eq, gelu_eq Cert.ReferenceIdeal.Gen.bcast_S_S64x2048]
  rfl

/-- The kernel's gated and residual branch is the reference's. -/
theorem xMain_eq (W : Weights Ideal) :
    Head.xMain W = residual (F := Ideal) (gate W.x_embed W.attn_w1 W.attn_b1 W.attn_w2 W.attn_b2)
      (norm (gate W.x_embed W.attn_w1 W.attn_b1 W.attn_w2 W.attn_b2)) W.ln_ff_g W.ln_ff_b W.ff_w1 W.ff_b1 W.ff_w2 W.ff_b2 := by
  rw [Head.xMain, gate_eq, gateNorm_eq, residual_eq]

/-- The two layers after the fused features, up to the last gelu's argument. -/
theorem hidden_eq (x : FVec Ideal S64x512 .f32) (g b : FVec Ideal S512 .f32) (w : FVec Ideal S512x512 .f32) (c : FVec Ideal S512 .f32)
    (w1 : FVec Ideal S512x512 .f32) (b1 : FVec Ideal S512 .f32) :
    k1_pay11 (F := Ideal) x g b (sums x) (Scalar.ofBits .f32 0x44000000#32) w c w1 b1 =
      dense (F := Ideal) (hidden (F := Ideal) x (norm x) g b w c) w1 b1 := by
  rw [← norm_eq]
  generalize hn : normFrom x (over512 (sums x)) = n
  trans dense (F := Ideal) (addf (mulf (mulf (dense (F := Ideal) (affine (F := Ideal) n g b) w c) (broadcast S64x512 (Scalar.ofBits .f32 0x3F000000#32)))
    (addf (broadcast S64x512 (Scalar.ofBits .f32 0x3F800000#32)) (erf (mulf (dense (F := Ideal) (affine (F := Ideal) n g b) w c) (broadcast S64x512 (Scalar.ofBits .f32 0x3F3504F3#32)))))) x) w1 b1
  · simp only [dense, affine, ← rows_eq, ← dot512_eq, ← hn]
    rfl
  · rw [gelu_eq Cert.ReferenceIdeal.Gen.bcast_S_S64x512]; rfl

/-- The last layers, from the argument of the gelu before them. -/
theorem logit_eq (h : FVec Ideal S64x512 .f32) (w1 : FVec Ideal S512x512 .f32) (b1 : FVec Ideal S512 .f32)
    (w2 : FVec Ideal S512x256 .f32) (b2 : FVec Ideal S256 .f32) (w3 : FVec Ideal S256x10 .f32) (b3 : FVec Ideal S10 .f32) :
    k1_pay1 (F := Ideal) (dense (F := Ideal) h w1 b1) (Scalar.ofBits .f32 0x3F000000#32) w2 b2 w3 b3 =
      logit (F := Ideal) h w1 b1 w2 b2 w3 b3 := by
  simp only [k1_pay1, dot256_eq, dot10_eq, rows256_eq, rows10_eq, gelu_eq Cert.ReferenceIdeal.Gen.bcast_S_S64x512,
    gelu_eq Cert.ReferenceIdeal.Gen.bcast_S_S64x256]
  rfl

end Cert.Layers

end
-- ==== Proof.Nearest.lean ====
/- The nearest centre: the kernel's one-hot product is the row the reference gathers. -/
module

public import proofs.«01_k».proof.Proof.Layers
public import Idealize.ShloMosaic.Lib.Routing.Ops

@[expose] public section

set_option maxRecDepth 16384

noncomputable section

namespace Cert.Layers

open Cert.KernelIdeal Cert.KernelIdeal.Gen Idealize.ShloMosaic
open Cert.ReferenceIdeal.Line

/-- One where an entry is its row's least, zero elsewhere, as the kernel computes it. -/
def atLeast (d : FVec Ideal S64x20 .f32) : FVec Ideal S64x20 .f32 :=
  sitofp .f32 (extui 32 (cmpf .ole d (broadcastTo S64x20
    (shapeCast S64x1 (multiReduction .minimumf [1] S64 d 0x7F800000#32 reduces_S64x20_S64 (.inl rfl) rfl) shapeCasts_S64_S64x1)
    broadcasts_S64x1_S64x20)) natLt_1_32)

/-- The kernel's strictly triangular matrix of ones. -/
def above : FVec Ideal S20x20 .f32 :=
  sitofp .f32 (extui 32 (cmpi .slt (iota .tc S20x20 32 [0] iota_S20x20_d0_w32) (iota .tc S20x20 32 [1] iota_S20x20_d1_w32)) natLt_1_32)

/-- One at the first of each row's least entries, zero elsewhere, as the kernel computes it. -/
def firstLeast (d : FVec Ideal S64x20 .f32) : FVec Ideal S64x20 .f32 :=
  select (cmpf .oeq (matmul dot_S64x20_S20x20_S64x20_1_0_0_1_n_n none (atLeast d) above (constant S64x20 .f32 0x00000000#32))
    (broadcast S64x20 (Scalar.ofBits .f32 0x00000000#32))) (atLeast d) (broadcast S64x20 (Scalar.ofBits .f32 0x00000000#32))

/-- A bit widened and converted is one or zero. -/
theorem bit_value (p : Prop) [Decidable p] :
    (FloatOps.sitofp .f32 (BitVec.setWidth 32 (BitVec.ofBool (decide p))) : Ideal .f32) = if p then (1 : EReal) else 0 := by
  by_cases h : p
  · simp only [h, decide_true, if_true]
    show (((BitVec.setWidth 32 (BitVec.ofBool true)).toInt : ℝ) : EReal) = 1
    simp
  · simp only [h, decide_false, if_false]
    show (((BitVec.setWidth 32 (BitVec.ofBool false)).toInt : ℝ) : EReal) = 0
    simp

/-- The indicator of the row's least entries. -/
theorem atLeast_apply (d : FVec Ideal S64x20 .f32) (r : Fin 64) (k : Fin 20) :
    atLeast d (ix2 r k) = if ∀ l : Fin 20, d (ix2 r k) ≤ d (ix2 r l) then (1 : EReal) else 0 := by
  pointwise [atLeast]
  rw [bit_value]
  simp only [Finset.le_fold_min, wordTop, le_top, true_and, Finset.mem_univ, forall_const]

/-- The strict order of the columns as zeros and ones. -/
theorem above_apply (l k : Fin 20) : above (ix2 l k) = if l < k then (1 : EReal) else 0 := by
  pointwise [above]
  rw [← bit_value]
  congr 2
  revert l k
  decide

/-- Kept are the least entries with none before them. -/
theorem firstLeast_apply (d : FVec Ideal S64x20 .f32) (r : Fin 64) (k : Fin 20) :
    firstLeast d (ix2 r k) = if ∑ l : Fin 20, atLeast d (ix2 r l) * above (ix2 l k) = 0 then atLeast d (ix2 r k) else 0 := by
  pointwise [firstLeast]

/-- The place `k` of row `r` holds the row's least entry, and no earlier place does. -/
def First (d : FVec Ideal S64x20 .f32) (r : Fin 64) (k : Fin 20) : Prop :=
  ∀ l : Fin 20, d (ix2 r k) < d (ix2 r l) ∨ d (ix2 r k) = d (ix2 r l) ∧ k ≤ l

/-- So the row is one at its first least entry and zero elsewhere. -/
theorem firstLeast_of (d : FVec Ideal S64x20 .f32) (r : Fin 64) (k : Fin 20) (h : First d r k) (l : Fin 20) :
    firstLeast d (ix2 r l) = if l = k then (1 : EReal) else 0 := by
  have le (x : Fin 20) : d (ix2 r k) ≤ d (ix2 r x) := (h x).elim le_of_lt fun e => e.1.le
  have mask (x : Fin 20) : atLeast d (ix2 r x) = if d (ix2 r x) = d (ix2 r k) then (1 : EReal) else 0 := by
    rw [atLeast_apply]
    exact if_congr ⟨fun hx => le_antisymm (hx k) (le x), fun e y => e ▸ le y⟩ rfl rfl
  have term (x : Fin 20) : atLeast d (ix2 r x) * above (ix2 x l) =
      if d (ix2 r x) = d (ix2 r k) ∧ x < l then (1 : EReal) else 0 := by
    rw [mask, above_apply]
    by_cases h1 : d (ix2 r x) = d (ix2 r k) <;> by_cases h2 : x < l <;> simp [h1, h2]
  rw [firstLeast_apply, Finset.sum_congr rfl fun x _ => term x, mask]
  rcases eq_or_ne l k with rfl | hl
  · rw [if_pos, if_pos rfl, if_pos rfl]
    refine Finset.sum_eq_zero fun x _ => if_neg fun ⟨e, hx⟩ => ?_
    rcases h x with hlt | ⟨_, hle⟩
    · exact absurd e hlt.ne'
    · exact absurd hx (not_lt.mpr hle)
  · rw [if_neg hl]
    by_cases e : d (ix2 r l) = d (ix2 r k)
    · rw [if_neg]
      have hkl : k < l := by
        rcases h l with hlt | ⟨_, hle⟩
        · exact absurd e hlt.ne'
        · exact lt_of_le_of_ne hle hl.symm
      refine ne_of_gt (lt_of_lt_of_le (zero_lt_one' EReal) ?_)
      refine le_trans (by rw [if_pos ⟨rfl, hkl⟩])
        (Finset.single_le_sum (f := fun x => if d (ix2 r x) = d (ix2 r k) ∧ x < l then (1 : EReal) else 0) (fun x _ => ?_) (Finset.mem_univ k))
      split <;> simp
    · rw [if_neg e, ite_self]

/-- A row of the one-hot matrix times the centres is the chosen centre. -/
theorem oneHot_row (d : FVec Ideal S64x20 .f32) (c : FVec Ideal S20x512 .f32) (r : Fin 64) (k : Fin 20) (h : First d r k) (y : Fin 512) :
    matmul (F := Ideal) dot_S64x20_S20x512_S64x512_1_0_0_1_n_n none (firstLeast d) c (constant S64x512 .f32 0x00000000#32) (ix2 r y) =
      c (ix2 k y) := by
  pointwise
  simp only [firstLeast_of d r k h, ite_mul, one_mul, zero_mul, Finset.sum_ite_eq', Finset.mem_univ, if_true]

/-- Reducing over the columns leaves the row. -/
theorem drop_row (r : Fin 64) (k : Fin 20) : Cert.ReferenceIdeal.Gen.reducesTo_S64x20_S64_d1.drop (ix2 r k) = ix1 r := by
  funext a
  fin_cases a
  rfl

/-- The pair `p` comes before `q` or is as good: a lesser value, or the same value at an index no greater. -/
def Before (p q : EReal × BitVec 32) : Prop := p.1 < q.1 ∨ p.1 = q.1 ∧ p.2.toInt ≤ q.2.toInt

/-- The order of pairs is reflexive, -/
theorem Before.refl (p : EReal × BitVec 32) : Before p p := .inr ⟨rfl, le_rfl⟩

/-- and transitive. -/
theorem Before.trans {p q s : EReal × BitVec 32} (h : Before p q) (g : Before q s) : Before p s := by
  rcases h with h | ⟨h, h'⟩ <;> rcases g with g | ⟨g, g'⟩
  · exact .inl (h.trans g)
  · exact .inl (g ▸ h)
  · exact .inl (h ▸ g)
  · exact .inr ⟨h.trans g, h'.trans g'⟩

/-- A set bit stays set. -/
theorem one_or : ∀ b : BitVec 1, 1#1 ||| b = 1#1 := by decide

/-- The reduction's body takes the earlier of two pairs. -/
theorem reducer_before (a b : EReal × BitVec 32) :
    let r := Cert.ReferenceIdeal.reducer_argmin_f32_i32 (F := Ideal) a b
    (r = a ∨ r = b) ∧ Before r a ∧ Before r b := by
  obtain ⟨x, i⟩ := a
  obtain ⟨y, k⟩ := b
  rcases lt_trichotomy x y with h | rfl | h
  · have e : Cert.ReferenceIdeal.reducer_argmin_f32_i32 (F := Ideal) (x, i) (y, k) = (x, i) := by
      simp [Cert.ReferenceIdeal.reducer_argmin_f32_i32, Ideal.cmpf_def, Ideal.cmp, IntOp.ori, IntOp.andi, Scalar.select, h, one_or]
    rw [e]; exact ⟨.inl rfl, .refl _, .inl h⟩
  · by_cases hi : i.toInt < k.toInt
    · have e : Cert.ReferenceIdeal.reducer_argmin_f32_i32 (F := Ideal) (x, i) (x, k) = (x, i) := by
        simp [Cert.ReferenceIdeal.reducer_argmin_f32_i32, Ideal.cmpf_def, Ideal.cmp, IntOp.ori, IntOp.andi, IntOp.cmpi, Scalar.select, hi, BitVec.slt]
      rw [e]; exact ⟨.inl rfl, .refl _, .inr ⟨rfl, hi.le⟩⟩
    · have e : Cert.ReferenceIdeal.reducer_argmin_f32_i32 (F := Ideal) (x, i) (x, k) = (x, k) := by
        simp [Cert.ReferenceIdeal.reducer_argmin_f32_i32, Ideal.cmpf_def, Ideal.cmp, IntOp.ori, IntOp.andi, IntOp.cmpi, Scalar.select, hi, BitVec.slt]
      rw [e]; exact ⟨.inr rfl, .inr ⟨rfl, not_lt.mp hi⟩, .refl _⟩
  · have e : Cert.ReferenceIdeal.reducer_argmin_f32_i32 (F := Ideal) (x, i) (y, k) = (y, k) := by
      simp [Cert.ReferenceIdeal.reducer_argmin_f32_i32, Ideal.cmpf_def, Ideal.cmp, IntOp.ori, IntOp.andi, Scalar.select, h.not_gt, h.ne']
    rw [e]; exact ⟨.inr rfl, .inl h, .refl _⟩

/-- So its fold takes the earliest pair of all. -/
theorem fold_before (L : List (EReal × BitVec 32)) (p : EReal × BitVec 32) :
    let r := L.foldl (Cert.ReferenceIdeal.reducer_argmin_f32_i32 (F := Ideal)) p
    (r = p ∨ r ∈ L) ∧ Before r p ∧ ∀ q ∈ L, Before r q := by
  induction L generalizing p with
  | nil => exact ⟨.inl rfl, .refl p, fun q hq => absurd hq List.not_mem_nil⟩
  | cons q L ih =>
    obtain ⟨mem, le, all⟩ := ih (Cert.ReferenceIdeal.reducer_argmin_f32_i32 (F := Ideal) p q)
    obtain ⟨which, lep, leq⟩ := reducer_before p q
    refine ⟨?_, le.trans lep, fun s hs => ?_⟩
    · rcases mem with e | hL
      · rcases which with w | w
        · exact .inl (e.trans w)
        · exact .inr (List.mem_cons.mpr (.inl (e.trans w)))
      · exact .inr (List.mem_cons_of_mem _ hL)
    · rcases List.mem_cons.mp hs with rfl | hs
      · exact le.trans leq
      · exact all s hs

/-- The pairs of row `r`. -/
def pairs (d : FVec Ideal S64x20 .f32) (r : Fin 64) : List (EReal × BitVec 32) :=
  Host.argReduceFiber d (iotaInDim S64x20 32 1) Cert.ReferenceIdeal.Gen.reducesTo_S64x20_S64_d1 (ix1 r)

/-- The pairs that the reduction meets in a row. -/
theorem mem_pairs (d : FVec Ideal S64x20 .f32) (r : Fin 64) (q : EReal × BitVec 32) :
    q ∈ pairs d r ↔ ∃ k : Fin 20, q = (d (ix2 r k), BitVec.ofNat 32 k.val) := by
  unfold pairs Host.argReduceFiber
  simp only [List.mem_map, List.mem_filter, List.mem_finRange, true_and, decide_eq_true_eq]
  constructor
  · rintro ⟨n, hn, rfl⟩
    generalize S64x20.rowMajor.symm n = j at hn ⊢
    obtain ⟨a, b, rfl⟩ : ∃ (a : Fin 64) (b : Fin 20), j = ix2 a b := ⟨j 0, j 1, eq_ix2 j⟩
    rw [drop_row] at hn
    obtain rfl : a = r := congrFun hn 0
    exact ⟨b, rfl⟩
  · rintro ⟨k, rfl⟩
    exact ⟨S64x20.rowMajor (ix2 r k), by rw [Equiv.symm_apply_apply, drop_row], by rw [Equiv.symm_apply_apply]; rfl⟩

/-- A column number is its own signed value. -/
theorem index_toInt (k : Fin 20) : (BitVec.ofNat 32 k.val).toInt = k.val := by
  revert k; decide

/-- The reference's index is the first of the row's least entries. -/
theorem least_first (d : FVec Ideal S64x20 .f32) (r : Fin 64) :
    ∃ k : Fin 20, least (F := Ideal) d (ix1 r) = BitVec.ofNat 32 k.val ∧ First d r k := by
  obtain ⟨mem, start, all⟩ := fold_before (pairs d r) (Ideal.ofBits .f32 0x7F800000#32, 0#32)
  have val : least (F := Ideal) d (ix1 r) = ((pairs d r).foldl (Cert.ReferenceIdeal.reducer_argmin_f32_i32 (F := Ideal))
      (Ideal.ofBits .f32 0x7F800000#32, 0#32)).2 := by
    rw [least, Ideal.argReduce_eq_reduce2, Host.reduce2_eq_foldl_fiber]; rfl
  rw [val]
  generalize (pairs d r).foldl (Cert.ReferenceIdeal.reducer_argmin_f32_i32 (F := Ideal)) (Ideal.ofBits .f32 0x7F800000#32, 0#32) = q
    at mem start all
  have least (k : Fin 20) (h : Before (d (ix2 r k), BitVec.ofNat 32 k.val) q) : First d r k := fun l => by
    rcases h.trans (all _ ((mem_pairs d r _).mpr ⟨l, rfl⟩)) with h | ⟨h, h'⟩
    · exact .inl h
    · refine .inr ⟨h, ?_⟩
      simp only [index_toInt] at h'
      exact Fin.le_def.mpr (by omega)
  rcases mem with rfl | mem
  · refine ⟨0, rfl, least 0 ?_⟩
    rcases all _ ((mem_pairs d r _).mpr ⟨0, rfl⟩) with h | ⟨h, _⟩
    · exact absurd h (by rw [wordTop]; exact not_top_lt)
    · exact .inr ⟨h.symm, le_rfl⟩
  · obtain ⟨k, rfl⟩ := (mem_pairs d r q).mp mem
    exact ⟨k, rfl, least k (.refl _)⟩

/-- The gather takes the row that the index names. -/
theorem gather_row_eq (c : FVec Ideal S20x512 .f32) (idx : IVec S64x1 32) (r : Fin 64) (y : Fin 512) (k : Fin 20)
    (h : idx (ix2 r 0) = BitVec.ofNat 32 k.val) :
    Host.gather Cert.ReferenceIdeal.gather_S20x512_S64x1_S64x512_1_0_n_n_0_1_1512 c idx (ix2 r y) = c (ix2 k y) := by
  simp only [ix2_eq_valueIdx] at h ⊢
  exact Routing.gather_row _ rfl rfl rfl rfl rfl c idx r y k h (by norm_num)

/-- The one-hot product is the gathered row. -/
theorem nearest_eq (d : FVec Ideal S64x20 .f32) (c : FVec Ideal S20x512 .f32) :
    matmul (F := Ideal) dot_S64x20_S20x512_S64x512_1_0_0_1_n_n none (firstLeast d) c (constant S64x512 .f32 0x00000000#32) =
      nearest (F := Ideal) d c := by
  funext j
  idx_vars j
  obtain ⟨k, hk, h⟩ := least_first d j0
  rw [oneHot_row d c j0 k h, nearest, gather_row_eq c _ j0 j1 k]
  pointwise
  rw [hk]
  clear hk h
  revert k
  decide

end Cert.Layers

end
-- ==== Proof.Distance.lean ====
/- The squared distances to the centres, and the fused features, over the extended reals. -/
module

public import proofs.«01_k».proof.Proof.Nearest

@[expose] public section

set_option maxRecDepth 16384

noncomputable section

namespace Cert.Layers

open Cert.KernelIdeal Cert.KernelIdeal.Gen Idealize.ShloMosaic
open Cert.ReferenceIdeal.Line

/-- A finite factor that is not negative goes into a sum. -/
theorem mul_sum {ι : Type} (s : Finset ι) (a : ℝ) (ha : 0 ≤ a) (f : ι → EReal) : (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- The kernel's distances, from its three terms. -/
def distances (f : FVec Ideal S64x512 .f32) (c : FVec Ideal S20x512 .f32) : FVec Ideal S64x20 .f32 :=
  addf (subf (broadcastTo S64x20 (sums (mulf f f)) broadcasts_S64x1_S64x20)
      (mulf (broadcast S64x20 (Scalar.ofBits .f32 0x40000000#32))
        (matmul dot_S64x512_S20x512_S64x20_1_1_0_0_n_n none f c (constant S64x20 .f32 0x00000000#32))))
    (broadcastTo S64x20 (k1_pay6 c) broadcasts_S1x20_S64x20)

/-- Doubling the products' sums is summing the doubled products. -/
theorem distance_eq (f : FVec Ideal S64x512 .f32) (c : FVec Ideal S20x512 .f32) : distances f c = distance (F := Ideal) f c := by
  funext j
  pointwise [distances, sums, k1_pay6, distance, splat]
  simp only [word2, mul_sum _ 2 zero_le_two, mul_assoc]

/-- The product with the two halves of the weight is the product of the branches side by side with the whole of it. -/
theorem halves_eq (a n : FVec Ideal S64x512 .f32) (w : Vec Ideal S1024x512 .f32) :
    addf (Host.dotGeneral (F := Ideal) (φ₁ := .f32) (φ₂ := .f32) Cert.ReferenceIdeal.dot_S64x512_S512x512_S64x512_1_0_0_1_n_n none a (View.ld w Head.halfA : Vec Ideal S512x512 .f32))
      (Host.dotGeneral (F := Ideal) (φ₁ := .f32) (φ₂ := .f32) Cert.ReferenceIdeal.dot_S64x512_S512x512_S64x512_1_0_0_1_n_n none n (View.ld w Head.halfB : Vec Ideal S512x512 .f32)) =
    Host.dotGeneral (F := Ideal) (φ₁ := .f32) (φ₂ := .f32) Cert.ReferenceIdeal.dot_S64x1024_S1024x512_S64x512_1_0_0_1_n_n none (beside (F := Ideal) a n) w := by
  funext j
  pointwise [beside]

/-- The fused features, from the finished sum before its bias. -/
theorem fuse_eq (a acc : FVec Ideal S64x512 .f32) (b : FVec Ideal S512 .f32) (c : FVec Ideal S20x512 .f32) (w : Vec Ideal S1024x512 .f32)
    (wb : FVec Ideal S512 .f32) :
    k1_pay9 (F := Ideal) a c (k1_pay6 c) (k1_pay7 acc b c) (k1_pay8 acc b) (View.ld w Head.halfA) (View.ld w Head.halfB) wb =
      fuse (F := Ideal) a (nearest (F := Ideal) (distance (F := Ideal) (addf acc (rows512 (F := Ideal) b)) c) c) w wb := by
  rw [← rows_eq, ← distance_eq, fuse, ← nearest_eq, ← halves_eq, ← gelu_eq, ← dot512_eq, ← dot512_eq, ← rows_eq]
  rfl

end Cert.Layers

end
-- ==== Proof.HeadWhole.lean ====
/- The second call's head over the extended reals is the reference's layers after the Gram features. -/
module

public import proofs.«01_k».proof.Proof.HeadValue
public import proofs.«01_k».proof.Proof.Distance

@[expose] public section

set_option maxRecDepth 16384

noncomputable section

namespace Cert.Layers

open Cert.KernelIdeal Cert.KernelIdeal.Gen Idealize.ShloMosaic
open Cert.ReferenceIdeal.Line
open Cert.KernelIdeal.Head (Weights)

/-- The reference's fused features from the weights and the Gram features. -/
def fusedOf (W : Weights Ideal) (f : FVec Ideal S64x512 .f32) : FVec Ideal S64x512 .f32 :=
  let a := gate (F := Ideal) W.x_embed W.attn_w1 W.attn_b1 W.attn_w2 W.attn_b2
  fuse (F := Ideal) (residual (F := Ideal) a (norm (F := Ideal) a) W.ln_ff_g W.ln_ff_b W.ff_w1 W.ff_b1 W.ff_w2 W.ff_b2)
    (nearest (F := Ideal) (distance (F := Ideal) f W.centers) W.centers) W.gm_w W.gm_b

/-- The kernel's fused features are the reference's. -/
theorem xFused_eq (W : Weights Ideal) (acc : FVec Ideal S64x512 .f32) :
    Head.xFused W acc = fusedOf W (addf acc (rows512 (F := Ideal) W.gram_b)) := by
  rw [Head.xFused, fuse_eq, xMain_eq, fusedOf]

/-- The second column the kernel keeps is their row sums. -/
theorem xFusedSum_eq (W : Weights Ideal) (acc : FVec Ideal S64x512 .f32) :
    Head.xFusedSum W acc = sums (Head.xFused W acc) := rfl

/-- The head, from a finished sum that is the Gram features once its bias is added. -/
theorem head_eq (W : Weights Ideal) (acc f : FVec Ideal S64x512 .f32) (hf : addf acc (rows512 (F := Ideal) W.gram_b) = f) :
    Head.head W acc = logit (F := Ideal) (hidden (F := Ideal) (fusedOf W f) (norm (F := Ideal) (fusedOf W f)) W.ln1_g W.ln1_b W.m1_w W.m1_b)
      W.m2_w1 W.m2_b1 W.m2_w2 W.m2_b2 W.out_w W.out_b := by
  rw [Head.head, xFusedSum_eq, hidden_eq, logit_eq, xFused_eq, hf]

end Cert.Layers

end
-- ==== Proof.GramSum.lean ====
/- The carried sum of the second call over the extended reals: one point adds the products of its blocks. -/
module

public import proofs.«01_k».proof.Proof.HeadRegion
public import proofs.«01_k».proof.Proof.Layers
public import Idealize.ShloMosaic.Lib.Pipeline.ValueKit

@[expose] public section

set_option maxRecDepth 16384

noncomputable section

namespace Cert.Layers

open Cert.KernelIdeal Cert.KernelIdeal.Gen Idealize.ShloMosaic Idealize.ShloMosaic.TcCoe

/-- What one point adds at an entry: its sixteen rows of the Gram block against its sixteen slabs of the weight block. -/
def part (g : Vec Ideal S64x16x512 .bf16) (w : Vec Ideal S16x512x512 .f32) (r : Fin 64) (y : Fin 512) : EReal :=
  ∑ j : Fin 16, ∑ c : Fin 512, (g (ix3 r j c) : EReal) * w (ix3 j c y)

/-- The sum over all rows and columns of a Gram matrix against all slabs of the weight. -/
def whole (g : Vec Ideal S64x512x512 .bf16) (w : Vec Ideal S512x512x512 .f32) (r : Fin 64) (y : Fin 512) : EReal :=
  ∑ i : Fin 512, ∑ l : Fin 512, (g (ix3 r i l) : EReal) * w (ix3 i l y)

/-- A sum of sixteen, written out. -/
theorem sum16 (f : Fin 16 → EReal) : ∑ j, f j =
    f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

/-- One point adds sixteen rows, each a sum over the columns. -/
theorem step_apply (g : Vec Ideal S64x16x512 .bf16) (w : Vec Ideal S16x512x512 .f32) (acc : Vec Ideal S64x512 .f32) (r : Fin 64) (y : Fin 512) :
    Head.step g w acc (ix2 r y) = (acc (ix2 r y) : EReal) + part g w r y := by
  pointwise [Head.step, k1_pay13, k1_pay14, k1_pay15, k1_pay16, k1_pay17, k1_pay18, k1_pay19]
  rw [part, sum16]
  simp only [← add_assoc]

section Entry
variable (V : (c : Dev nD) → (b : Ref sig .tc) → Buf (Elt Ideal) ((c : Thread nD τ).loc b)) (c : Dev nD)

/-- The carried sum after point `n`: what the points up to it added. -/
theorem accAt_apply (n : ℕ) (h : n < cfg1.N) (r : Fin 64) (y : Fin 512) :
    (Head.accAt V c n h (ix2 r y) : EReal) =
      ∑ k : Fin (n + 1), part (Head.blkG V c ⟨k.val, lt_of_le_of_lt (Nat.lt_succ_iff.mp k.isLt) h⟩)
        (Head.blkW V c ⟨k.val, lt_of_le_of_lt (Nat.lt_succ_iff.mp k.isLt) h⟩) r y := by
  induction n with
  | zero =>
    rw [Head.accAt, step_apply, Fin.sum_univ_one]
    pointwise [k1_pay12]
  | succ n ih =>
    rw [Head.accAt, step_apply, Fin.sum_univ_castSucc, ih]
    rfl

/-- Where the Gram block of a point stands. -/
theorem indexG (t : Fin cfg1.N) : win1_0.index t = ![0, t.val, 0] := by
  revert t; decide +kernel
/-- Where the weight block of a point stands. -/
theorem indexW (t : Fin cfg1.N) : win1_1.index t = ![t.val, 0, 0] := by
  revert t; decide +kernel

/-- A point's rows are rows of the matrix. -/
theorem row_lt (t : Fin cfg1.N) (j : Fin 16) : t.val * 16 + j.val < 512 := by
  have := Nat.lt_of_lt_of_eq t.isLt N_1
  omega

/-- The Gram block at an index. -/
theorem blkG_apply (t : Fin cfg1.N) (r : Fin 64) (j : Fin 16) (l : Fin 512) :
    Head.blkG V c t (ix3 r j l) = (V c main_v1 : Vec Ideal S64x512x512 .bf16) (ix3 r ⟨t.val * 16 + j.val, row_lt t j⟩ l) := by
  unfold Head.blkG Head.blk
  blk_ext [indexG t]

/-- The weight block at an index. -/
theorem blkW_apply (t : Fin cfg1.N) (j : Fin 16) (l y : Fin 512) :
    Head.blkW V c t (ix3 j l y) = (V c main_v2 : Vec Ideal S512x512x512 .f32) (ix3 ⟨t.val * 16 + j.val, row_lt t j⟩ l y) := by
  unfold Head.blkW Head.blk
  blk_ext [indexW t]

/-- The finished sum: over all 512 rows of the Gram matrix and all 512 columns. -/
theorem acc_last (h : 31 < cfg1.N) (r : Fin 64) (y : Fin 512) :
    (Head.accAt V c 31 h (ix2 r y) : EReal) = whole (V c main_v1) (V c main_v2) r y := by
  rw [accAt_apply, whole, Fin.sum_univ_tiles 32 16 rfl]
  refine Finset.sum_congr rfl fun k _ => Finset.sum_congr rfl fun j _ => Finset.sum_congr rfl fun l _ => ?_
  rw [blkG_apply, blkW_apply]

end Entry

end Cert.Layers

end
-- ==== Proof.GramValue.lean ====
/- The first call's result over the extended reals: the Gram matrices over 784. -/
module

public import proofs.«01_k».proof.Proof.GramRegion
public import proofs.«01_k».proof.Proof.Layers
public import Idealize.ShloMosaic.Lib.Pipeline.ValueKit

@[expose] public section

set_option maxRecDepth 16384

noncomputable section

namespace Cert.Layers

open Cert.KernelIdeal Cert.KernelIdeal.Gen Idealize.ShloMosaic Idealize.ShloMosaic.TcCoe

/-- The named reciprocal is 1/784. -/
theorem inv_hw : Named.named (F := Ideal) Cert.KernelIdeal.κ "inv_hw" (φ := .f32) 0x3AA72F05#32 = ((784⁻¹ : ℝ) : EReal) :=
  IdealRules.named_const.ideal_named_scalar _ _ _ _ rfl

/-- Gram matrices over 784 positions, scaled. -/
def scaled (x : Vec Ideal S64x512x784 .f32) : Vec Ideal S64x512x512 .bf16 := fun i =>
  ((∑ s : Fin 784, (x (ix3 (i 0) (i 1) s) : EReal) * x (ix3 (i 0) (i 2) s)) * ((784⁻¹ : ℝ) : EReal) : EReal)

/-- One Gram matrix at an index. -/
theorem gramRow_apply (x : Vec Ideal S1x512x784 .f32) (a b : Fin 512) :
    (Gram.gramRow x (ix3 0 a b) : EReal) = (∑ s : Fin 784, (x (ix3 0 a s) : EReal) * x (ix3 0 b s)) * ((784⁻¹ : ℝ) : EReal) := by
  pointwise [Gram.gramRow, k0_pay3]
  rw [inv_hw]

/-- Batch row `q` of the block, as one row's own array. -/
theorem row_apply (x : Vec Ideal S8x512x784 .f32) (q : Fin 8) (a : Fin 512) (s : Fin 784) :
    View.ld x (Gram.rowIn q) (ix3 0 a s) = x (ix3 q a s) := by
  unfold View.ld
  congr 1
  idx_ext

/-- The wanted block of Gram matrices. -/
def wanted (x : Vec Ideal S8x512x784 .f32) : Vec Ideal S8x512x512 .bf16 := fun i =>
  ((∑ s : Fin 784, (x (ix3 (i 0) (i 1) s) : EReal) * x (ix3 (i 0) (i 2) s)) * ((784⁻¹ : ℝ) : EReal) : EReal)

/-- One store holds its rows of the wanted block. -/
theorem store_eq (x : Vec Ideal S8x512x784 .f32) (q : Fin 8) (j : S1x512x512.Idx) :
    Gram.gramRow (View.ld x (Gram.rowIn q)) j = wanted x ((Gram.rowOut q).emb j) := by
  idx_vars j
  obtain rfl : j0 = 0 := Subsingleton.elim _ _
  have e : (Gram.rowOut q).emb (ix3 0 j1 j2) = ix3 q j1 j2 := by idx_ext
  rw [e]
  refine (gramRow_apply _ j1 j2).trans ?_
  refine congrArg (· * ((784⁻¹ : ℝ) : EReal)) (Finset.sum_congr rfl fun s _ => ?_)
  exact congrArg₂ (fun u v : EReal => u * v) (row_apply x q j1 s) (row_apply x q j2 s)

/-- The eight stores are the wanted block. -/
theorem grams_eq (x : Vec Ideal S8x512x784 .f32) : Gram.grams x = wanted x := by
  funext y
  refine View.canon_apply_of_pieces (wanted x) _ ?_ y (Gram.stores_cover x y)
  intro p hp
  simp only [Gram.stores, List.mem_cons, List.not_mem_nil, or_false] at hp
  rcases hp with rfl | rfl | rfl | rfl | rfl | rfl | rfl | rfl <;> exact store_eq x _

section Entry
variable (V : (c : Dev nD) → (b : Ref sig .tc) → Buf (Elt Ideal) ((c : Thread nD τ).loc b)) (c : Dev nD)

/-- Where the input block of a point stands. -/
theorem indexIn (t : Fin cfg0.N) : win0_0.index t = ![t.val, 0, 0] := by
  revert t; decide +kernel
/-- Where the output block of a point stands. -/
theorem indexOut (t : Fin cfg0.N) : win0_1.index t = ![t.val, 0, 0] := by
  revert t; decide +kernel

/-- A point's batch rows are rows of the batch. -/
theorem row_in (t : Fin cfg0.N) (q : Fin 8) : t.val * 8 + q.val < 64 := by
  have := Nat.lt_of_lt_of_eq t.isLt N_0
  omega

/-- The input block at an index. -/
theorem blkIn_apply (t : Fin cfg0.N) (q : Fin 8) (a : Fin 512) (s : Fin 784) :
    Gram.blkIn V c t (ix3 q a s) = (V c main_v0 : Vec Ideal S64x512x784 .f32) (ix3 ⟨t.val * 8 + q.val, row_in t q⟩ a s) := by
  unfold Gram.blkIn
  blk_ext [indexIn t]

/-- The first call's array after its run. -/
theorem gram_final : (Gram.dat V c).arrAt 1 cfg0.N = scaled (V c main_v0) := by
  refine (Gram.dat V c).arrAt_eq_of_covers 1 _ (by decide +kernel) fun t hf y => ?_
  blk_simp
  rw [Gram.after_out, grams_eq]
  have e : (win0_1.blk t).view.emb y = ix3 (⟨t.val * 8 + (y 0).val, row_in t (y 0)⟩ : Fin 64) (y 1) (y 2) := by
    blk_ext [indexOut t]
  rw [e]
  refine congrArg (· * ((784⁻¹ : ℝ) : EReal)) (Finset.sum_congr rfl fun s _ => ?_)
  exact congrArg₂ (fun u v : EReal => u * v) (blkIn_apply V c t (y 0) (y 1) s) (blkIn_apply V c t (y 0) (y 2) s)

end Entry

end Cert.Layers

end
-- ==== Proof.GramTotal.lean ====
/- The reference's Gram features, as the kernel's two calls sum them. -/
module

public import proofs.«01_k».proof.Proof.GramSum
public import proofs.«01_k».proof.Proof.GramValue

@[expose] public section

set_option maxRecDepth 16384

noncomputable section

namespace Cert.Layers

open Cert.KernelIdeal Cert.KernelIdeal.Gen Idealize.ShloMosaic
open Cert.ReferenceIdeal.Line

/-- The reference's Gram matrices are the kernel's. -/
theorem grams_scaled (image : FVec Ideal S64x512x28x28 .f32) (r : Fin 64) (a b : Fin 512) :
    (grams (F := Ideal) image (ix3 r a b) : EReal) =
      scaled (shapeCast S64x512x784 image shapeCasts_S64x512x28x28_S64x512x784) (ix3 r a b) := by
  pointwise [grams, splat, scaled]
  rw [word784, Ideal.div_coe (by norm_num : (784 : ℝ) ≠ 0), one_div]

/-- One sum over the flattened matrix is the sum over its rows and columns. -/
theorem flat_eq (g : FVec Ideal S64x512x512 .f32) (w : FVec Ideal S262144x512 .f32) (r : Fin 64) (y : Fin 512) :
    (Host.dotGeneral (F := Ideal) (φ₁ := .f32) (φ₂ := .f32) Cert.ReferenceIdeal.dot_S64x262144_S262144x512_S64x512_1_0_0_1_n_n none
      (shapeCast Cert.ReferenceIdeal.S64x262144 g Cert.ReferenceIdeal.Gen.shapeCasts_S64x512x512_S64x262144) w (ix2 r y) : EReal) =
      ∑ i : Fin 512, ∑ l : Fin 512, (g (ix3 r i l) : EReal) * shapeCast S512x512x512 w shapeCasts_S262144x512_S512x512x512 (ix3 i l y) := by
  trans ∑ k : Fin 262144, (g (ix3 r ⟨k.val / 512, by omega⟩ ⟨k.val % 512, by omega⟩) : EReal) * w (ix2 k y)
  · pointwise
  rw [Fin.sum_univ_tiles 512 512 rfl]
  refine Finset.sum_congr rfl fun i _ => Finset.sum_congr rfl fun l _ => ?_
  pointwise
  have hi : (i.val * 512 + l.val) / 512 = i.val := by omega
  have hl : (i.val * 512 + l.val) % 512 = l.val := by omega
  simp only [hi, hl, Fin.eta]

/-- The finished sum and its bias are the reference's Gram features. -/
theorem total_eq (image : FVec Ideal S64x512x28x28 .f32) (w : FVec Ideal S262144x512 .f32) (b : FVec Ideal S512 .f32)
    (acc : FVec Ideal S64x512 .f32)
    (h : ∀ r y, (acc (ix2 r y) : EReal) = whole (scaled (shapeCast S64x512x784 image shapeCasts_S64x512x28x28_S64x512x784))
      (shapeCast S512x512x512 w shapeCasts_S262144x512_S512x512x512) r y) :
    addf acc (rows512 (F := Ideal) b) = gram (F := Ideal) image w b := by
  unfold gram
  refine congrArg (fun v : FVec Ideal S64x512 .f32 => addf v (rows512 (F := Ideal) b)) ?_
  funext j
  idx_vars j
  refine (h j0 j1).trans ((flat_eq _ w j0 j1).trans ?_).symm
  exact Finset.sum_congr rfl fun i _ => Finset.sum_congr rfl fun l _ => congrArg (· * _) (grams_scaled image j0 i l)

end Cert.Layers

end
-- ==== Proof.ReferenceRun.lean ====
/- The reference's run: its result as one function of its arguments, and its arguments kept. -/
module

public import proofs.«01_k».proof.Proof.ReferenceValues
public import Idealize.ShloMosaic.Lib.Quiescent

@[expose] public section

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

section
variable (V : Valuation τ sig (Elt F))

/-- An argument's contents. -/
abbrev arg (r : Ref sig .tc) := V (Proc.devRef .tc r)

/-- The gated features, -/
def gated : Vec F S64x512 .f32 := gate (arg V main_arg0) (arg V main_arg2) (arg V main_arg3) (arg V main_arg4) (arg V main_arg5)
/-- the residual branch, -/
def branch : Vec F S64x512 .f32 :=
  residual (gated V) (norm (gated V)) (arg V main_arg6) (arg V main_arg7) (arg V main_arg8) (arg V main_arg9) (arg V main_arg10) (arg V main_arg11)
/-- the centre nearest to the Gram features, -/
def centre : Vec F S64x512 .f32 := nearest (distance (gram (arg V main_arg1) (arg V main_arg12) (arg V main_arg13)) (arg V main_arg14)) (arg V main_arg14)
/-- the two fused, -/
def fused : Vec F S64x512 .f32 := fuse (branch V) (centre V) (arg V main_arg15) (arg V main_arg16)
/-- and the logits. -/
def logits : Vec F S64x10 .f32 :=
  logit (hidden (fused V) (norm (fused V)) (arg V main_arg17) (arg V main_arg18) (arg V main_arg19) (arg V main_arg20))
    (arg V main_arg21) (arg V main_arg22) (arg V main_arg23) (arg V main_arg24) (arg V main_arg25) (arg V main_arg26)

/-- What the stretches from the first through some later one leave at the arguments: what was there. -/
def Kept (W : Valuation τ sig (Elt F)) : Prop := ∀ r ∈ argRefs, W (Proc.devRef .tc r) = V (Proc.devRef .tc r)

/-- The line ends with the logits in its result. -/
theorem line_value : after ops V (Proc.devRef .tc main_v148) = logits V := by
  have away : ∀ r ∈ argRefs, (r ∉ gateOuts ∧ r ∉ gateNormOuts ∧ r ∉ residualOuts ∧ r ∉ gramOuts ∧ r ∉ distanceOuts ∧ r ∉ nearestOuts ∧ r ∉ fuseOuts ∧ r ∉ fuseNormOuts ∧ r ∉ hiddenOuts ∧ r ∉ logitOuts) := by decide
  simp only [after_append]
  have k0 : Kept V V := fun _ _ => rfl
  obtain ⟨V1, e1⟩ : ∃ W, W = after gateOps V := ⟨_, rfl⟩
  have k1 : Kept V V1 := fun r h => (e1 ▸ gate_keep V r (away r h).1).trans (k0 r h)
  have v15_1 : V1 (Proc.devRef .tc main_v15) = gated V := by
    rw [e1, gate_value, k0 main_arg0 (by decide), k0 main_arg2 (by decide), k0 main_arg3 (by decide), k0 main_arg4 (by decide), k0 main_arg5 (by decide)]; rfl
  obtain ⟨V2, e2⟩ : ∃ W, W = after gateNormOps V1 := ⟨_, rfl⟩
  have k2 : Kept V V2 := fun r h => (e2 ▸ gateNorm_keep V1 r (away r h).2.1).trans (k1 r h)
  have v27_2 : V2 (Proc.devRef .tc main_v27) = norm (gated V) := by
    rw [e2, gateNorm_value, v15_1]
  have v15_2 : V2 (Proc.devRef .tc main_v15) = gated V := by rw [e2, gateNorm_keep V1 main_v15 (by decide), v15_1]
  obtain ⟨V3, e3⟩ : ∃ W, W = after residualOps V2 := ⟨_, rfl⟩
  have k3 : Kept V V3 := fun r h => (e3 ▸ residual_keep V2 r (away r h).2.2.1).trans (k2 r h)
  have v49_3 : V3 (Proc.devRef .tc main_v49) = branch V := by
    rw [e3, residual_value, v15_2, v27_2, k2 main_arg6 (by decide), k2 main_arg7 (by decide), k2 main_arg8 (by decide), k2 main_arg9 (by decide), k2 main_arg10 (by decide), k2 main_arg11 (by decide)]; rfl
  obtain ⟨V4, e4⟩ : ∃ W, W = after gramOps V3 := ⟨_, rfl⟩
  have k4 : Kept V V4 := fun r h => (e4 ▸ gram_keep V3 r (away r h).2.2.2.1).trans (k3 r h)
  have v58_4 : V4 (Proc.devRef .tc main_v58) = gram (arg V main_arg1) (arg V main_arg12) (arg V main_arg13) := by
    rw [e4, gram_value, k3 main_arg1 (by decide), k3 main_arg12 (by decide), k3 main_arg13 (by decide)]
  have v49_4 : V4 (Proc.devRef .tc main_v49) = branch V := by rw [e4, gram_keep V3 main_v49 (by decide), v49_3]
  obtain ⟨V5, e5⟩ : ∃ W, W = after distanceOps V4 := ⟨_, rfl⟩
  have k5 : Kept V V5 := fun r h => (e5 ▸ distance_keep V4 r (away r h).2.2.2.2.1).trans (k4 r h)
  have v72_5 : V5 (Proc.devRef .tc main_v72) = distance (gram (arg V main_arg1) (arg V main_arg12) (arg V main_arg13)) (arg V main_arg14) := by
    rw [e5, distance_value, v58_4, k4 main_arg14 (by decide)]
  have v49_5 : V5 (Proc.devRef .tc main_v49) = branch V := by rw [e5, distance_keep V4 main_v49 (by decide), v49_4]
  obtain ⟨V6, e6⟩ : ∃ W, W = after nearestOps V5 := ⟨_, rfl⟩
  have k6 : Kept V V6 := fun r h => (e6 ▸ nearest_keep V5 r (away r h).2.2.2.2.2.1).trans (k5 r h)
  have v80_6 : V6 (Proc.devRef .tc main_v80) = centre V := by
    rw [e6, nearest_value, v72_5, k5 main_arg14 (by decide)]; rfl
  have v49_6 : V6 (Proc.devRef .tc main_v49) = branch V := by rw [e6, nearest_keep V5 main_v49 (by decide), v49_5]
  obtain ⟨V7, e7⟩ : ∃ W, W = after fuseOps V6 := ⟨_, rfl⟩
  have k7 : Kept V V7 := fun r h => (e7 ▸ fuse_keep V6 r (away r h).2.2.2.2.2.2.1).trans (k6 r h)
  have v92_7 : V7 (Proc.devRef .tc main_v92) = fused V := by
    rw [e7, fuse_value, v49_6, v80_6, k6 main_arg15 (by decide), k6 main_arg16 (by decide)]; rfl
  obtain ⟨V8, e8⟩ : ∃ W, W = after fuseNormOps V7 := ⟨_, rfl⟩
  have k8 : Kept V V8 := fun r h => (e8 ▸ fuseNorm_keep V7 r (away r h).2.2.2.2.2.2.2.1).trans (k7 r h)
  have v104_8 : V8 (Proc.devRef .tc main_v104) = norm (fused V) := by
    rw [e8, fuseNorm_value, v92_7]
  have v92_8 : V8 (Proc.devRef .tc main_v92) = fused V := by rw [e8, fuseNorm_keep V7 main_v92 (by decide), v92_7]
  obtain ⟨V9, e9⟩ : ∃ W, W = after hiddenOps V8 := ⟨_, rfl⟩
  have k9 : Kept V V9 := fun r h => (e9 ▸ hidden_keep V8 r (away r h).2.2.2.2.2.2.2.2.1).trans (k8 r h)
  have v122_9 : V9 (Proc.devRef .tc main_v122) = hidden (fused V) (norm (fused V)) (arg V main_arg17) (arg V main_arg18) (arg V main_arg19) (arg V main_arg20) := by
    rw [e9, hidden_value, v92_8, v104_8, k8 main_arg17 (by decide), k8 main_arg18 (by decide), k8 main_arg19 (by decide), k8 main_arg20 (by decide)]
  obtain ⟨V10, e10⟩ : ∃ W, W = after logitOps V9 := ⟨_, rfl⟩
  have v148_10 : V10 (Proc.devRef .tc main_v148) = logits V := by
    rw [e10, logit_value, v122_9, k9 main_arg21 (by decide), k9 main_arg22 (by decide), k9 main_arg23 (by decide), k9 main_arg24 (by decide), k9 main_arg25 (by decide), k9 main_arg26 (by decide)]; rfl
  rw [← e1, ← e2, ← e3, ← e4, ← e5, ← e6, ← e7, ← e8, ← e9, ← e10]
  exact v148_10
end

/-- The line keeps every argument. -/
theorem line_keep (V : Valuation τ sig (Elt F)) (r : Ref sig .tc) (h : r ∈ argRefs) :
    after ops V (Proc.devRef .tc r) = V (Proc.devRef .tc r) := by
  have away : ∀ r ∈ argRefs, (r ∉ gateOuts ∧ r ∉ gateNormOuts ∧ r ∉ residualOuts ∧ r ∉ gramOuts ∧ r ∉ distanceOuts ∧ r ∉ nearestOuts ∧ r ∉ fuseOuts ∧ r ∉ fuseNormOuts ∧ r ∉ hiddenOuts ∧ r ∉ logitOuts) := by decide
  obtain ⟨h0, h1, h2, h3, h4, h5, h6, h7, h8, h9⟩ := away r h
  simp only [after_append]
  rw [logit_keep _ r h9, hidden_keep _ r h8, fuseNorm_keep _ r h7, fuse_keep _ r h6, nearest_keep _ r h5, distance_keep _ r h4, gram_keep _ r h3, residual_keep _ r h2, gateNorm_keep _ r h1, gate_keep _ r h0]

set_option maxHeartbeats 4000000 in
/-- The reference ends with the logits in its result, its arguments as launched and no counter raised. -/
theorem runs (m : (ℓ : Loc nD τ sig) → Buf (Elt F) ℓ) (ρ : Dev nD → PrngReg) :
    θ_run defs (onTc (τ := τ) main) ⟨m, fun _ => 0, ρ⟩ fun r =>
      (∀ c : Dev nD, r.2.mem ((c.tc : Thread nD τ).loc main_v148) = logits (launchContents m c)
        ∧ ∀ b ∈ argRefs, r.2.mem ((c.tc : Thread nD τ).loc b) = m ((c.tc : Thread nD τ).loc b))
      ∧ r.2.sem = fun _ => 0 :=
  θ_run_mono (run_hlo defs main main_eq (by decide) (by decide) (by simp [gateOps, gateNormOps, residualOps, gramOps, distanceOps, nearestOps, fuseOps, fuseNormOps, hiddenOps, logitOps])
      (by intro _ h; (repeat (cases h with | head => rfl | tail _ h => ?_)); exact nomatch h) m ρ)
    fun r h => ⟨fun c => ⟨(h c main_v148).trans (line_value _), fun b hb => (h c b).trans (line_keep _ b hb)⟩,
      Idealize.ShloMosaic.sem_eq_zero_of_no_sems (by decide) _⟩

end Cert.ReferenceIdeal.Line

end
-- ==== Proof.KernelEnd.lean ====
/- What the kernel leaves in its result, over the extended reals: the reference's logits of its arguments. -/
module

public import proofs.«01_k».proof.Proof.Run
public import proofs.«01_k».proof.Proof.HeadWhole
public import proofs.«01_k».proof.Proof.GramTotal
public import proofs.«01_k».proof.Proof.ReferenceRun

@[expose] public section

set_option maxRecDepth 16384

noncomputable section

namespace Cert.Layers

open Cert.KernelIdeal Cert.KernelIdeal.Gen Idealize.ShloMosaic Idealize.ShloMosaic.TcCoe
open Cert.ReferenceIdeal.Line
open Cert.KernelIdeal.Head (Weights)
open Cert.KernelIdeal.Run

/-- The operands of the head are handed over whole: their blocks stand at the origin at every point. -/
theorem at_origin : ∀ (w : Fin cfg1.W) (t : Fin cfg1.N), 2 ≤ w.val → ∀ a, (cfg1.win w).index t a = 0 := by
  decide +kernel

/-- The last point, -/
def lastPoint : Fin cfg1.N := ⟨31, by decide +kernel⟩

/-- where alone the result is written back, whole. -/
theorem once : (cfg1.win 27).WholeAt lastPoint := by decide +kernel

section Entry
variable (V : (c : Dev nD) → (b : Ref sig .tc) → Buf (Elt Ideal) ((c : Thread nD τ).loc b)) (c : Dev nD)

/-- The operands of the head, as arrays. -/
def operands : Weights Ideal where
  x_embed := V c main_arg0
  gram_b := V c main_arg13
  centers := V c main_arg14
  attn_w1 := V c main_arg2
  attn_b1 := V c main_arg3
  attn_w2 := V c main_arg4
  attn_b2 := V c main_arg5
  ln_ff_g := V c main_arg6
  ln_ff_b := V c main_arg7
  ff_w1 := V c main_arg8
  ff_b1 := V c main_arg9
  ff_w2 := V c main_arg10
  ff_b2 := V c main_arg11
  gm_w := V c main_arg15
  gm_b := V c main_arg16
  ln1_g := V c main_arg17
  ln1_b := V c main_arg18
  m1_w := V c main_arg19
  m1_b := V c main_arg20
  m2_w1 := V c main_arg21
  m2_b1 := V c main_arg22
  m2_w2 := V c main_arg23
  m2_b2 := V c main_arg24
  out_w := V c main_arg25
  out_b := V c main_arg26

/-- A block that stands at the origin reads the array at its own indices. -/
theorem blk_origin (w : Fin cfg1.W) (h : 2 ≤ w.val) (t : Fin cfg1.N) (y : ((cfg1.win w).xblock (cfg1.grid.coords t)).Idx)
    (j : (cfg1.win w).shape.Idx) (hj : ∀ a, (j a).val = (y a).val) :
    Head.blk V c w t y = (cfg1.win w).arr.view.read (Elt Ideal) (V c (Pipeline.arrRef spec1 w)) j := by
  have e : ((cfg1.win w).rect t).emb y = j := funext fun a =>
    Fin.ext (((cfg1.win w).rect_emb_val_of_index_zero t a (at_origin w t h a) y).trans (hj a).symm)
  rw [← e]; rfl

/-- Each operand's block is the whole array. -/
theorem weights_eq (t : Fin cfg1.N) : Head.weights V c t = operands V c := by
  unfold Head.weights operands
  congr 1
  all_goals
    funext y
    exact blk_origin V c _ (by decide) t y y fun _ => rfl

/-- The second call's result after its run: the head of the finished sum. -/
theorem head_final (h : 31 < cfg1.N) : (Head.dat V c).arrAt 27 cfg1.N = Head.head (operands V c) (Head.accAt V c 31 h) := by
  refine (Head.dat V c).arrAt_eq_of_after_last 27 lastPoint once _ fun j => ?_
  blk_simp
  rw [Head.after_out]
  unfold Head.out
  rw [weights_eq]
  rfl

end Entry

variable (m : (ℓ : Loc nD τ sig) → Buf (Elt Ideal) ℓ) (ρ : Dev nD → PrngReg) (c : Dev nD)

/-- The Gram matrices the second call is entered with, -/
theorem entry_grams : at3 m ρ c main_v1 =
    scaled (shapeCast S64x512x784 (m ((c : Thread nD τ).loc main_arg1) : Vec Ideal S64x512x28x28 .f32) shapeCasts_S64x512x28x28_S64x512x784) := by
  refine (W3_of m ρ c main_v1 (by decide)).trans ((W2_arr m ρ c 1).trans ((gram_final (at1 m ρ) c).trans (congrArg scaled ?_)))
  show StableHlo.after hostOps0 (W0 m ρ c) (Proc.devRef .tc main_v0) = _
  unfold hostOps0; after_results_simp
  rfl

/-- and the slabs of the large weight. -/
theorem entry_slabs : at3 m ρ c main_v2 =
    shapeCast S512x512x512 (m ((c : Thread nD τ).loc main_arg12) : Vec Ideal S262144x512 .f32) shapeCasts_S262144x512_S512x512x512 := by
  have e : W2 m ρ c (Proc.devRef .tc main_arg12) = m ((c : Thread nD τ).loc main_arg12) :=
    (W3_of m ρ c main_arg12 (by decide)).symm.trans (W3_args m ρ c main_arg12 (by decide))
  show StableHlo.after hostOps1 (W2 m ρ c) (Proc.devRef .tc main_v2) = _
  unfold hostOps1; after_results_simp
  rw [e]
  rfl

/-- The head's operands as launched. -/
abbrev launched : Weights Ideal := operands (fun c b => m ((c : Thread nD τ).loc b)) c

/-- The second call is entered with them. -/
theorem entry_operands : operands (at3 m ρ) c = launched m c := by
  unfold launched operands
  congr 1
  all_goals exact W3_args m ρ c _ (by decide)

/-- The reference's logits of the head's operands, the image and the large weight. -/
def logitsOf (W : Weights Ideal) (image : FVec Ideal S64x512x28x28 .f32) (w : FVec Ideal S262144x512 .f32) : FVec Ideal S64x10 .f32 :=
  let x := fusedOf W (gram (F := Ideal) image w W.gram_b)
  logit (F := Ideal) (hidden (F := Ideal) x (norm (F := Ideal) x) W.ln1_g W.ln1_b W.m1_w W.m1_b) W.m2_w1 W.m2_b1 W.m2_w2 W.m2_b2 W.out_w W.out_b

/-- The kernel's result after its run. -/
theorem kernel_value : W4 m ρ c (Proc.devRef .tc main_v3) =
    logitsOf (launched m c) (m ((c : Thread nD τ).loc main_arg1)) (m ((c : Thread nD τ).loc main_arg12)) := by
  have last : 31 < cfg1.N := lastPoint.isLt
  refine (W4_arr m ρ c 27).trans ((head_final (at3 m ρ) c last).trans ?_)
  rw [entry_operands]
  refine head_eq _ _ _ (total_eq _ _ _ _ fun r y => ?_)
  refine (acc_last (at3 m ρ) c last r y).trans ?_
  rw [entry_grams, entry_slabs]

end Cert.Layers

end
-- ==== Proof.Algebraic.lean ====
/- Kernel and reference leave the same result, over the extended reals. -/
module

public import proofs.«01_k».proof.Defs
public import proofs.«01_k».proof.Proof.KernelEnd
public import proofs.«01_k».proof.Proof.Gen.ReferenceIdeal
public import Idealize.ShloMosaic.Lib.Claim

@[expose] public section

set_option maxRecDepth 16384

noncomputable section

namespace Cert.Proof

open Idealize.ShloMosaic Idealize.ShloMosaic.TcCoe Idealize.ShloMosaic.StableHlo
open Idealize.SL.Sem
open Cert.Layers

attribute [local instance] Cert.KernelIdeal.Gen.facts Cert.ReferenceIdeal.Gen.facts

/-- The reference's operands of the layers after the Gram features. -/
def read (V : Valuation Cert.ReferenceIdeal.τ Cert.ReferenceIdeal.sig (Elt Ideal)) : Cert.KernelIdeal.Head.Weights Ideal where
  x_embed := Cert.ReferenceIdeal.Line.arg V Cert.ReferenceIdeal.main_arg0
  gram_b := Cert.ReferenceIdeal.Line.arg V Cert.ReferenceIdeal.main_arg13
  centers := Cert.ReferenceIdeal.Line.arg V Cert.ReferenceIdeal.main_arg14
  attn_w1 := Cert.ReferenceIdeal.Line.arg V Cert.ReferenceIdeal.main_arg2
  attn_b1 := Cert.ReferenceIdeal.Line.arg V Cert.ReferenceIdeal.main_arg3
  attn_w2 := Cert.ReferenceIdeal.Line.arg V Cert.ReferenceIdeal.main_arg4
  attn_b2 := Cert.ReferenceIdeal.Line.arg V Cert.ReferenceIdeal.main_arg5
  ln_ff_g := Cert.ReferenceIdeal.Line.arg V Cert.ReferenceIdeal.main_arg6
  ln_ff_b := Cert.ReferenceIdeal.Line.arg V Cert.ReferenceIdeal.main_arg7
  ff_w1 := Cert.ReferenceIdeal.Line.arg V Cert.ReferenceIdeal.main_arg8
  ff_b1 := Cert.ReferenceIdeal.Line.arg V Cert.ReferenceIdeal.main_arg9
  ff_w2 := Cert.ReferenceIdeal.Line.arg V Cert.ReferenceIdeal.main_arg10
  ff_b2 := Cert.ReferenceIdeal.Line.arg V Cert.ReferenceIdeal.main_arg11
  gm_w := Cert.ReferenceIdeal.Line.arg V Cert.ReferenceIdeal.main_arg15
  gm_b := Cert.ReferenceIdeal.Line.arg V Cert.ReferenceIdeal.main_arg16
  ln1_g := Cert.ReferenceIdeal.Line.arg V Cert.ReferenceIdeal.main_arg17
  ln1_b := Cert.ReferenceIdeal.Line.arg V Cert.ReferenceIdeal.main_arg18
  m1_w := Cert.ReferenceIdeal.Line.arg V Cert.ReferenceIdeal.main_arg19
  m1_b := Cert.ReferenceIdeal.Line.arg V Cert.ReferenceIdeal.main_arg20
  m2_w1 := Cert.ReferenceIdeal.Line.arg V Cert.ReferenceIdeal.main_arg21
  m2_b1 := Cert.ReferenceIdeal.Line.arg V Cert.ReferenceIdeal.main_arg22
  m2_w2 := Cert.ReferenceIdeal.Line.arg V Cert.ReferenceIdeal.main_arg23
  m2_b2 := Cert.ReferenceIdeal.Line.arg V Cert.ReferenceIdeal.main_arg24
  out_w := Cert.ReferenceIdeal.Line.arg V Cert.ReferenceIdeal.main_arg25
  out_b := Cert.ReferenceIdeal.Line.arg V Cert.ReferenceIdeal.main_arg26

/-- The reference's logits by those operands. -/
theorem logits_eq (V : Valuation Cert.ReferenceIdeal.τ Cert.ReferenceIdeal.sig (Elt Ideal)) :
    Cert.ReferenceIdeal.Line.logits V = logitsOf (read V) (Cert.ReferenceIdeal.Line.arg V Cert.ReferenceIdeal.main_arg1)
      (Cert.ReferenceIdeal.Line.arg V Cert.ReferenceIdeal.main_arg12) := rfl

/-- From equal arguments the kernel and the reference leave equal results. -/
theorem same_value : Cert.algebraic_KernelIdeal_ReferenceIdeal := by
  intro m g m' g' _ hargs
  refine ⟨fun c => logitsOf (launched m c) (m ((c : Thread Cert.KernelIdeal.nD Cert.KernelIdeal.τ).loc Cert.KernelIdeal.main_arg1))
    (m ((c : Thread Cert.KernelIdeal.nD Cert.KernelIdeal.τ).loc Cert.KernelIdeal.main_arg12)), ?_, ?_⟩
  · refine (θ_run _ _ _).mono (fun r h c => ?_) (Cert.KernelIdeal.Run.ends m g)
    have k := Cert.KernelIdeal.Run.arg_end m g h.1 c
    refine ⟨(h.1 c _ (Cert.KernelIdeal.Run.mem_uc _ (by decide))).trans (kernel_value m g c), ?_, ?_, ?_, ?_, ?_, ?_, ?_, ?_, ?_, ?_, ?_, ?_, ?_, ?_, ?_, ?_, ?_, ?_, ?_, ?_, ?_, ?_, ?_, ?_, ?_, ?_, ?_⟩
    all_goals exact k _ (by decide)
  · refine (θ_run _ _ _).mono (fun r h c => ?_) (Cert.ReferenceIdeal.Line.runs m' g')
    have k := (h.1 c).2
    refine ⟨(h.1 c).1.trans ((logits_eq _).trans ?_), ?_, ?_, ?_, ?_, ?_, ?_, ?_, ?_, ?_, ?_, ?_, ?_, ?_, ?_, ?_, ?_, ?_, ?_, ?_, ?_, ?_, ?_, ?_, ?_, ?_, ?_, ?_⟩
    rotate_left
    all_goals first | exact k _ (by decide) | skip
    obtain ⟨h0, h1, h2, h3, h4, h5, h6, h7, h8, h9, h10, h11, h12, h13, h14, h15, h16, h17, h18, h19, h20, h21, h22, h23, h24, h25, h26⟩ := hargs c
    have e : read (launchContents m' c) = launched m c := by
      unfold read launched operands
      congr 1
      all_goals assumption
    rw [e]
    exact congrArg₂ (logitsOf (launched m c)) h1 h12

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.ReferenceFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Proof.kernel_frame, Cert.Proof.kernelIdeal_frame, Cert.Proof.reference_frame, Cert.Proof.scale_named, Cert.Proof.same_value⟩

end Cert.Proof

end
